-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_weigh [hPre_gates_weigh : Cert.Pre_gates_weigh.Facts] (m : (ℓ : Loc Cert.MoeIdeal.nD Cert.MoeIdeal.τ Cert.MoeIdeal.sig) → Buf (Elt Ideal) ℓ) : Prop :=
  ∀ c : Dev Cert.MoeIdeal.nD,
    (Cert.Pre_gates_weigh.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gates_weigh [hPre_gates_weigh : Cert.Pre_gates_weigh.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gates_weigh.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_gates_weigh [hMoeIdeal : Cert.MoeIdeal.Facts] [hPre_gates_weigh : Cert.Pre_gates_weigh.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_weigh m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_gates_weigh [hMoeRefIdeal : Cert.MoeRefIdeal.Facts] [hPre_gates_weigh : Cert.Pre_gates_weigh.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gates_weigh m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v32_0)) (v1 : (c : Dev Cert.ProjIdeal.nD) → Buf (Elt Ideal) ((c.tc : Thread Cert.ProjIdeal.nD Cert.ProjIdeal.τ).loc Cert.ProjIdeal.main_v32_1)) (v2 : (c : Dev Cert.ProjIdeal.nD) → Buf (Elt Ideal) ((c.tc : Thread Cert.ProjIdeal.nD Cert.ProjIdeal.τ).loc Cert.ProjIdeal.main_v32_2)) (v3 : (c : Dev Cert.ProjIdeal.nD) → Buf (Elt Ideal) ((c.tc : Thread Cert.ProjIdeal.nD Cert.ProjIdeal.τ).loc Cert.ProjIdeal.main_v32_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v32_0) = v0 c
          ∧ r.2.mem ((c.tc : Thread Cert.ProjIdeal.nD Cert.ProjIdeal.τ).loc Cert.ProjIdeal.main_v32_1) = v1 c
          ∧ r.2.mem ((c.tc : Thread Cert.ProjIdeal.nD Cert.ProjIdeal.τ).loc Cert.ProjIdeal.main_v32_2) = v2 c
          ∧ r.2.mem ((c.tc : Thread Cert.ProjIdeal.nD Cert.ProjIdeal.τ).loc Cert.ProjIdeal.main_v32_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_v25) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Moe_MoeIdeal : Prop :=
  True

def algebraic_MoeIdeal_MoeRefIdeal_pre_gates_weigh [hMoeIdeal : Cert.MoeIdeal.Facts] [hMoeRefIdeal : Cert.MoeRefIdeal.Facts] [hPre_gates_weigh : Cert.Pre_gates_weigh.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gates_weigh m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v27) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v256) = v0 c
          ∧ r.2.mem ((c.tc : Thread Cert.ConvRefIdeal.nD Cert.ConvRefIdeal.τ).loc Cert.ConvRefIdeal.main_v257) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Router_RouterIdeal : Prop :=
  True

def Claim : Prop :=
  ∃ (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hMoe : Cert.Moe.Facts) (hMoeIdeal : Cert.MoeIdeal.Facts) (hMoeRefIdeal : Cert.MoeRefIdeal.Facts) (hConv : Cert.Conv.Facts) (hConvIdeal : Cert.ConvIdeal.Facts) (hConvRefIdeal : Cert.ConvRefIdeal.Facts) (hRouter : Cert.Router.Facts) (hRouterIdeal : Cert.RouterIdeal.Facts) (hPre_gates_weigh : Cert.Pre_gates_weigh.Facts),
    quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Moe (hMoe := hMoe)
    ∧ quiescent_MoeIdeal (hMoeIdeal := hMoeIdeal)
    ∧ quiescent_MoeIdeal_pre_gates_weigh (hMoeIdeal := hMoeIdeal) (hPre_gates_weigh := hPre_gates_weigh)
    ∧ quiescent_MoeRefIdeal (hMoeRefIdeal := hMoeRefIdeal)
    ∧ quiescent_MoeRefIdeal_pre_gates_weigh (hMoeRefIdeal := hMoeRefIdeal) (hPre_gates_weigh := hPre_gates_weigh)
    ∧ quiescent_Conv (hConv := hConv)
    ∧ quiescent_ConvIdeal (hConvIdeal := hConvIdeal)
    ∧ quiescent_ConvRefIdeal (hConvRefIdeal := hConvRefIdeal)
    ∧ quiescent_Router (hRouter := hRouter)
    ∧ quiescent_RouterIdeal (hRouterIdeal := hRouterIdeal)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal)
    ∧ preserves_Moe_MoeIdeal
    ∧ algebraic_MoeIdeal_MoeRefIdeal_pre_gates_weigh (hMoeIdeal := hMoeIdeal) (hMoeRefIdeal := hMoeRefIdeal) (hPre_gates_weigh := hPre_gates_weigh)
    ∧ preserves_Conv_ConvIdeal
    ∧ algebraic_ConvIdeal_ConvRefIdeal (hConvIdeal := hConvIdeal) (hConvRefIdeal := hConvRefIdeal)
    ∧ preserves_Router_RouterIdeal
-- ==== Pre_gates_weigh.lean ====
abbrev S32768x1024 : Shape := ⟨2, ![32768, 1024]⟩
abbrev S32768x128 : Shape := ⟨2, ![32768, 128]⟩
abbrev S8x1024x2816 : Shape := ⟨3, ![8, 1024, 2816]⟩
abbrev S8x2816x1024 : Shape := ⟨3, ![8, 2816, 1024]⟩
abbrev S1024 : Shape := ⟨1, ![1024]⟩
abbrev S32768x8 : Shape := ⟨2, ![32768, 8]⟩
abbrev S_ : Shape := ⟨0, ![]⟩

class Facts : Prop where
  slices_S32768x128_S32768x8_0_0 : S32768x128.Slices ![0, 0] S32768x8
  bcast_S_S32768x8 : S_.BroadcastsInDim S32768x8 (![] : Fin 0 → Fin S32768x8.rank)

variable [Facts]

def fn {F : FTy → Type} [FloatOps F] (main_arg0 : FVec F S32768x1024 .f32) (main_arg1 : FVec F S32768x1024 .bf16) (main_arg2 : FVec F S32768x128 .f32) (main_arg3 : FVec F S8x1024x2816 .f32) (main_arg4 : FVec F S8x1024x2816 .f32) (main_arg5 : FVec F S8x2816x1024 .f32) (main_arg6 : FVec F S1024 .f32) : IVec S32768x8 1 :=
  let main_v0 : FVec F S32768x8 .f32 := (extractStridedSlice S32768x8 ![0, 0] · slices_S32768x128_S32768x8_0_0) main_arg2
  let main_cst : FVec F S_ .f32 := constant S_ .f32 0x00000000#32
  let main_v1 : FVec F S32768x8 .f32 := broadcastInDim S32768x8 ![] bcast_S_S32768x8 main_cst
  let main_v2 : IVec S32768x8 1 := cmpf .oge main_v0 main_v1
  let main_cst_0 : FVec F S_ .f32 := constant S_ .f32 0x7F800000#32
  let main_v3 : FVec F S32768x8 .f32 := broadcastInDim S32768x8 ![] bcast_S_S32768x8 main_cst_0
  let main_v4 : IVec S32768x8 1 := cmpf .olt main_v0 main_v3
  let main_v5 : IVec S32768x8 1 := andi main_v2 main_v4
  main_v5
-- ==== Proj.lean ====
abbrev S32768x1024 : Shape := ⟨2, ![32768, 1024]⟩
abbrev S1024 : Shape := ⟨1, ![1024]⟩
abbrev S1024x3090 : Shape := ⟨2, ![1024, 3090]⟩
abbrev S1x1024x3090 : Shape := ⟨3, ![1, 1024, 3090]⟩
abbrev S_ : Shape := ⟨0, ![]⟩
abbrev S1x1024x1024 : Shape := ⟨3, ![1, 1024, 1024]⟩
abbrev S1024x512 : Shape := ⟨2, ![1024, 512]⟩
abbrev S1024x384 : Shape := ⟨2, ![1024, 384]⟩
abbrev S1024x640 : Shape := ⟨2, ![1024, 640]⟩
abbrev S1024x6 : Shape := ⟨2, ![1024, 6]⟩
abbrev S1024x1152 : Shape := ⟨2, ![1024, 1152]⟩
abbrev S1024x110 : Shape := ⟨2, ![1024, 110]⟩
abbrev S1024x128 : Shape := ⟨2, ![1024, 128]⟩
abbrev S1024x1024 : Shape := ⟨2, ![1024, 1024]⟩
abbrev S1024x1536 : Shape := ⟨2, ![1024, 1536]⟩
abbrev S256x1024 : Shape := ⟨2, ![256, 1024]⟩
abbrev S384x1024 : Shape := ⟨2, ![384, 1024]⟩
abbrev S1x1024 : Shape := ⟨2, ![1, 1024]⟩
abbrev S32768x512 : Shape := ⟨2, ![32768, 512]⟩
abbrev S32768x1536 : Shape := ⟨2, ![32768, 1536]⟩
abbrev S32768x128 : Shape := ⟨2, ![32768, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 41
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3090, .f32⟩
  | .hbm, ⟨3, _⟩ => ⟨S1x1024x3090, .f32⟩
  | .hbm, ⟨4, _⟩ => ⟨S_, .f32⟩
  | .hbm, ⟨5, _⟩ => ⟨S1x1024x1024, .f32⟩
  | .hbm, ⟨6, _⟩ => ⟨S1024x3090, .f32⟩
  | .hbm, ⟨7, _⟩ => ⟨S1024x512, .f32⟩
  | .hbm, ⟨8, _⟩ => ⟨S1024x3090, .f32⟩
  | .hbm, ⟨9, _⟩ => ⟨S1024x384, .f32⟩
  | .hbm, ⟨10, _⟩ => ⟨S1024x3090, .f32⟩
  | .hbm, ⟨11, _⟩ => ⟨S1024x640, .f32⟩
  | .hbm, ⟨12, _⟩ => ⟨S1024x3090, .f32⟩
  | .hbm, ⟨13, _⟩ => ⟨S1024x6, .f32⟩
  | .hbm, ⟨14, _⟩ => ⟨S1024x3090, .f32⟩
  | .hbm, ⟨15, _⟩ => ⟨S1024x1152, .f32⟩
  | .hbm, ⟨16, _⟩ => ⟨S1024x3090, .f32⟩
  | .hbm, ⟨17, _⟩ => ⟨S1024x384, .f32⟩
  | .hbm, ⟨18, _⟩ => ⟨S1024x3090, .f32⟩
  | .hbm, ⟨19, _⟩ => ⟨S1024x6, .f32⟩
  | .hbm, ⟨20, _⟩ => ⟨S1024x3090, .f32⟩
  | .hbm, ⟨21, _⟩ => ⟨S1024x6, .f32⟩
  | .hbm, ⟨22, _⟩ => ⟨S_, .f32⟩
  | .hbm, ⟨23, _⟩ => ⟨S1024x110, .f32⟩
  | .hbm, ⟨24, _⟩ => ⟨S1024x128, .f32⟩
  | .hbm, ⟨25, _⟩ => ⟨S1024x1024, .f32⟩
  | .hbm, ⟨26, _⟩ => ⟨S1024x1024, .bf16⟩
  | .hbm, ⟨27, _⟩ => ⟨S1024x512, .bf16⟩
  | .hbm, ⟨28, _⟩ => ⟨S1024x1024, .f32⟩
  | .hbm, ⟨29, _⟩ => ⟨S1024x1024, .bf16⟩
  | .hbm, ⟨30, _⟩ => ⟨S1024x1536, .f32⟩
  | .hbm, ⟨31, _⟩ => ⟨S1024x1536, .bf16⟩
  | .hbm, ⟨32, _⟩ => ⟨S1024x128, .bf16⟩
  | .hbm, ⟨33, _⟩ => ⟨S256x1024, .bf16⟩
  | .hbm, ⟨34, _⟩ => ⟨S384x1024, .bf16⟩
  | .hbm, ⟨35, _⟩ => ⟨S384x1024, .bf16⟩
  | .hbm, ⟨36, _⟩ => ⟨S1x1024, .f32⟩
  | .hbm, ⟨37, _⟩ => ⟨S32768x512, .f32⟩
  | .hbm, ⟨38, _⟩ => ⟨S32768x1024, .f32⟩
  | .hbm, ⟨39, _⟩ => ⟨S32768x1536, .f32⟩
  | .hbm, ⟨40, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x1536, .bf16⟩
  | .local _ .vmem, ⟨6, _⟩ => ⟨S1024x128, .bf16⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S512x1536, .f32⟩
  | .local _ .vmem, ⟨12, _⟩ => ⟨S512x1536, .f32⟩
  | .local _ .vmem, ⟨13, _⟩ => ⟨S512x128, .f32⟩
  | .local _ .vmem, ⟨14, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32_0 : Ref sig .tc := ⟨.hbm, 37, rfl⟩
abbrev main_v32_1 : Ref sig .tc := ⟨.hbm, 38, rfl⟩
abbrev main_v32_2 : Ref sig .tc := ⟨.hbm, 39, rfl⟩
abbrev main_v32_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S32768x1024 : Shape := ⟨2, ![32768, 1024]⟩
abbrev S1024 : Shape := ⟨1, ![1024]⟩
abbrev S1024x3090 : Shape := ⟨2, ![1024, 3090]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3090 : Shape := ⟨2, ![32768, 3090]⟩
abbrev S32768x512 : Shape := ⟨2, ![32768, 512]⟩
abbrev S32768x384 : Shape := ⟨2, ![32768, 384]⟩
abbrev S32768x640 : Shape := ⟨2, ![32768, 640]⟩
abbrev S32768x6 : Shape := ⟨2, ![32768, 6]⟩
abbrev S32768x1152 : Shape := ⟨2, ![32768, 1152]⟩
abbrev S32768x110 : Shape := ⟨2, ![32768, 110]⟩
abbrev S32768x128 : Shape := ⟨2, ![32768, 128]⟩
abbrev S32768x1536 : Shape := ⟨2, ![32768, 1536]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3090, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3090, .f32⟩
  | .hbm, ⟨20, _⟩ => ⟨S32768x512, .f32⟩
  | .hbm, ⟨21, _⟩ => ⟨S32768x384, .f32⟩
  | .hbm, ⟨22, _⟩ => ⟨S32768x640, .f32⟩
  | .hbm, ⟨23, _⟩ => ⟨S32768x6, .f32⟩
  | .hbm, ⟨24, _⟩ => ⟨S32768x1152, .f32⟩
  | .hbm, ⟨25, _⟩ => ⟨S32768x384, .f32⟩
  | .hbm, ⟨26, _⟩ => ⟨S32768x6, .f32⟩
  | .hbm, ⟨27, _⟩ => ⟨S32768x6, .f32⟩
  | .hbm, ⟨28, _⟩ => ⟨S_, .f32⟩
  | .hbm, ⟨29, _⟩ => ⟨S32768x110, .f32⟩
  | .hbm, ⟨30, _⟩ => ⟨S32768x128, .f32⟩
  | .hbm, ⟨31, _⟩ => ⟨S32768x1024, .f32⟩
  | .hbm, ⟨32, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Ffn.lean ====
abbrev S32768x1024 : Shape := ⟨2, ![32768, 1024]⟩
abbrev S32768x256 : Shape := ⟨2, ![32768, 256]⟩
abbrev S32768x384 : Shape := ⟨2, ![32768, 384]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S384x1024 : Shape := ⟨2, ![384, 1024]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 18
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x384, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024x1024, .bf16⟩
  | .hbm, ⟨10, _⟩ => ⟨S256x1024, .bf16⟩
  | .hbm, ⟨11, _⟩ => ⟨S384x1024, .bf16⟩
  | .hbm, ⟨12, _⟩ => ⟨S384x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S256x1024, .bf16⟩
  | .local _ .vmem, ⟨9, _⟩ => ⟨S384x1024, .bf16⟩
  | .local _ .vmem, ⟨10, _⟩ => ⟨S384x1024, .bf16⟩
  | .local _ .vmem, ⟨11, _⟩ => ⟨S1x1024, .f32⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1408x1024, .bf16⟩
  | .local _ .vmem, ⟨17, _⟩ => ⟨S1408x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1408x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S32768x1024 : Shape := ⟨2, ![32768, 1024]⟩
abbrev S32768x256 : Shape := ⟨2, ![32768, 256]⟩
abbrev S32768x384 : Shape := ⟨2, ![32768, 384]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x384, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x256, .f32⟩
  | .hbm, ⟨10, _⟩ => ⟨S32768x384, .f32⟩
  | .hbm, ⟨11, _⟩ => ⟨S32768x384, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x1024, .f32⟩
  | .hbm, ⟨44, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Moe.lean ====
abbrev S32768x1024 : Shape := ⟨2, ![32768, 1024]⟩
abbrev S32768x128 : Shape := ⟨2, ![32768, 128]⟩
abbrev S8x1024x2816 : Shape := ⟨3, ![8, 1024, 2816]⟩
abbrev S8x2816x1024 : Shape := ⟨3, ![8, 2816, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S1x128 : Shape := ⟨2, ![1, 128]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S1024, .f32⟩
  | .hbm, ⟨7, _⟩ => ⟨S8x1024x2816, .bf16⟩
  | .hbm, ⟨8, _⟩ => ⟨S8x1024x2816, .bf16⟩
  | .hbm, ⟨9, _⟩ => ⟨S8x2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![64, 8, 2], ![false, false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let arg2 : BitVec 32 := BitVec.ofNat 32 (i 2).val
  let c1_i32 : BitVec 32 := 1#32
  let v43 : BitVec 1 := Scalar.cmpi .eq arg2 c1_i32
  let v44 : BitVec 1 := Scalar.andi v42 v43
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MoeRefIdeal.lean ====
abbrev S32768x1024 : Shape := ⟨2, ![32768, 1024]⟩
abbrev S32768x128 : Shape := ⟨2, ![32768, 128]⟩
abbrev S8x1024x2816 : Shape := ⟨3, ![8, 1024, 2816]⟩
abbrev S8x2816x1024 : Shape := ⟨3, ![8, 2816, 1024]⟩
abbrev S1024 : Shape := ⟨1, ![1024]⟩
abbrev S8x2816x32768 : Shape := ⟨3, ![8, 2816, 32768]⟩
abbrev S8x32768x2816 : Shape := ⟨3, ![8, 32768, 2816]⟩
abbrev S_ : Shape := ⟨0, ![]⟩
abbrev S8x32768x1024 : Shape := ⟨3, ![8, 32768, 1024]⟩
abbrev S32768x8 : Shape := ⟨2, ![32768, 8]⟩
abbrev S8x32768 : Shape := ⟨2, ![8, 32768]⟩
abbrev S8x32768x1 : Shape := ⟨3, ![8, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S1024, .f32⟩
  | .hbm, ⟨7, _⟩ => ⟨S32768x1024, .f32⟩
  | .hbm, ⟨8, _⟩ => ⟨S8x2816x32768, .f32⟩
  | .hbm, ⟨9, _⟩ => ⟨S8x32768x2816, .f32⟩
  | .hbm, ⟨10, _⟩ => ⟨S8x32768x2816, .f32⟩
  | .hbm, ⟨11, _⟩ => ⟨S8x32768x2816, .f32⟩
  | .hbm, ⟨12, _⟩ => ⟨S_, .f32⟩
  | .hbm, ⟨13, _⟩ => ⟨S8x32768x2816, .f32⟩
  | .hbm, ⟨14, _⟩ => ⟨S8x32768x2816, .f32⟩
  | .hbm, ⟨15, _⟩ => ⟨S_, .f32⟩
  | .hbm, ⟨16, _⟩ => ⟨S8x32768x2816, .f32⟩
  | .hbm, ⟨17, _⟩ => ⟨S8x32768x2816, .f32⟩
  | .hbm, ⟨18, _⟩ => ⟨S8x32768x2816, .f32⟩
  | .hbm, ⟨19, _⟩ => ⟨S8x2816x32768, .f32⟩
  | .hbm, ⟨20, _⟩ => ⟨S8x32768x2816, .f32⟩
  | .hbm, ⟨21, _⟩ => ⟨S8x32768x2816, .f32⟩
  | .hbm, ⟨22, _⟩ => ⟨S8x32768x1024, .f32⟩
  | .hbm, ⟨23, _⟩ => ⟨S32768x8, .f32⟩
  | .hbm, ⟨24, _⟩ => ⟨S8x32768, .f32⟩
  | .hbm, ⟨25, _⟩ => ⟨S8x32768x1, .f32⟩
  | .hbm, ⟨26, _⟩ => ⟨S8x32768x1024, .f32⟩
  | .hbm, ⟨27, _⟩ => ⟨S8x32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Conv.lean ====
abbrev S2x16384x512 : Shape := ⟨3, ![2, 16384, 512]⟩
abbrev S2x30x256 : Shape := ⟨3, ![2, 30, 256]⟩
abbrev S31x256 : Shape := ⟨2, ![31, 256]⟩
abbrev S256 : Shape := ⟨1, ![256]⟩
abbrev S1x256 : Shape := ⟨2, ![1, 256]⟩
abbrev S_ : Shape := ⟨0, ![]⟩
abbrev S2x32x256 : Shape := ⟨3, ![2, 32, 256]⟩
abbrev S2x16384x256 : Shape := ⟨3, ![2, 16384, 256]⟩
abbrev S1x256x512 : Shape := ⟨3, ![1, 256, 512]⟩
abbrev S1x32x256 : Shape := ⟨3, ![1, 32, 256]⟩
abbrev S1x256x256 : Shape := ⟨3, ![1, 256, 256]⟩
abbrev S288x256 : Shape := ⟨2, ![288, 256]⟩
abbrev S32x256 : Shape := ⟨2, ![32, 256]⟩
abbrev S256x512 : Shape := ⟨2, ![256, 512]⟩
abbrev S256x256 : Shape := ⟨2, ![256, 256]⟩
abbrev S32 : Shape := ⟨1, ![32]⟩
abbrev S32x1 : Shape := ⟨2, ![32, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x16384x512, .f32⟩
  | .hbm, ⟨1, _⟩ => ⟨S2x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S_, .i32⟩
  | .hbm, ⟨10, _⟩ => ⟨S_, .f32⟩
  | .hbm, ⟨11, _⟩ => ⟨S2x32x256, .f32⟩
  | .hbm, ⟨12, _⟩ => ⟨S2x16384x256, .bf16⟩
  | .hbm, ⟨13, _⟩ => ⟨S2x32x256, .f32⟩
  | .local _ .vmem, ⟨0, _⟩ => ⟨S1x256x512, .f32⟩
  | .local _ .vmem, ⟨1, _⟩ => ⟨S1x256x512, .f32⟩
  | .local _ .vmem, ⟨2, _⟩ => ⟨S1x32x256, .f32⟩
  | .local _ .vmem, ⟨3, _⟩ => ⟨S1x32x256, .f32⟩
  | .local _ .vmem, ⟨4, _⟩ => ⟨S31x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x32x256, .f32⟩
  | .local _ .vmem, ⟨11, _⟩ => ⟨S1x32x256, .f32⟩
  | .local _ .vmem, ⟨12, _⟩ => ⟨S288x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S2x16384x512 : Shape := ⟨3, ![2, 16384, 512]⟩
abbrev S2x30x256 : Shape := ⟨3, ![2, 30, 256]⟩
abbrev S31x256 : Shape := ⟨2, ![31, 256]⟩
abbrev S256 : Shape := ⟨1, ![256]⟩
abbrev S2x16384x256 : Shape := ⟨3, ![2, 16384, 256]⟩
abbrev S_ : Shape := ⟨0, ![]⟩
abbrev S2x16414x256 : Shape := ⟨3, ![2, 16414, 256]⟩
abbrev S1x256 : Shape := ⟨2, ![1, 256]⟩
abbrev S1x1x256 : Shape := ⟨3, ![1, 1, 256]⟩
abbrev S2x16384 : Shape := ⟨2, ![2, 16384]⟩
abbrev S2x16384x1 : Shape := ⟨3, ![2, 16384, 1]⟩
abbrev S2x32x256 : Shape := ⟨3, ![2, 32, 256]⟩

abbrev nBuf : Space → Nat
  | .hbm => 280
  | .vmem => 0
  | .smem => 0
  | _ => 0

abbrev hbmTy0_0 (i : Nat) : BufTy := match i % 128 with
  | 0 => ⟨S2x16384x512, .f32⟩
  | 1 => ⟨S2x30x256, .f32⟩
  | 2 => ⟨S31x256, .f32⟩
  | 3 => ⟨S256, .f32⟩
  | 4 => ⟨S256, .f32⟩
  | 5 => ⟨S256, .f32⟩
  | 6 => ⟨S2x16384x256, .f32⟩
  | 7 => ⟨S2x16384x256, .f32⟩
  | 8 => ⟨S2x16384x256, .f32⟩
  | 9 => ⟨S2x16384x256, .f32⟩
  | 10 => ⟨S_, .f32⟩
  | 11 => ⟨S2x16384x256, .f32⟩
  | 12 => ⟨S2x16384x256, .f32⟩
  | 13 => ⟨S_, .f32⟩
  | 14 => ⟨S2x16384x256, .f32⟩
  | 15 => ⟨S2x16384x256, .f32⟩
  | 16 => ⟨S2x16384x256, .f32⟩
  | 17 => ⟨S2x16414x256, .f32⟩
  | 18 => ⟨S1x256, .f32⟩
  | 19 => ⟨S256, .f32⟩
  | 20 => ⟨S2x16384x256, .f32⟩
  | 21 => ⟨S1x1x256, .f32⟩
  | 22 => ⟨S2x16384x256, .f32⟩
  | 23 => ⟨S2x16384x256, .f32⟩
  | 24 => ⟨S_, .f32⟩
  | 25 => ⟨S2x16384x256, .f32⟩
  | 26 => ⟨S2x16384x256, .f32⟩
  | 27 => ⟨S1x256, .f32⟩
  | 28 => ⟨S256, .f32⟩
  | 29 => ⟨S2x16384x256, .f32⟩
  | 30 => ⟨S1x1x256, .f32⟩
  | 31 => ⟨S2x16384x256, .f32⟩
  | 32 => ⟨S2x16384x256, .f32⟩
  | 33 => ⟨S2x16384x256, .f32⟩
  | 34 => ⟨S1x256, .f32⟩
  | 35 => ⟨S256, .f32⟩
  | 36 => ⟨S2x16384x256, .f32⟩
  | 37 => ⟨S1x1x256, .f32⟩
  | 38 => ⟨S2x16384x256, .f32⟩
  | 39 => ⟨S2x16384x256, .f32⟩
  | 40 => ⟨S2x16384x256, .f32⟩
  | 41 => ⟨S1x256, .f32⟩
  | 42 => ⟨S256, .f32⟩
  | 43 => ⟨S2x16384x256, .f32⟩
  | 44 => ⟨S1x1x256, .f32⟩
  | 45 => ⟨S2x16384x256, .f32⟩
  | 46 => ⟨S2x16384x256, .f32⟩
  | 47 => ⟨S2x16384x256, .f32⟩
  | 48 => ⟨S1x256, .f32⟩
  | 49 => ⟨S256, .f32⟩
  | 50 => ⟨S2x16384x256, .f32⟩
  | 51 => ⟨S1x1x256, .f32⟩
  | 52 => ⟨S2x16384x256, .f32⟩
  | 53 => ⟨S2x16384x256, .f32⟩
  | 54 => ⟨S2x16384x256, .f32⟩
  | 55 => ⟨S1x256, .f32⟩
  | 56 => ⟨S256, .f32⟩
  | 57 => ⟨S2x16384x256, .f32⟩
  | 58 => ⟨S1x1x256, .f32⟩
  | 59 => ⟨S2x16384x256, .f32⟩
  | 60 => ⟨S2x16384x256, .f32⟩
  | 61 => ⟨S2x16384x256, .f32⟩
  | 62 => ⟨S1x256, .f32⟩
  | 63 => ⟨S256, .f32⟩
  | 64 => ⟨S2x16384x256, .f32⟩
  | 65 => ⟨S1x1x256, .f32⟩
  | 66 => ⟨S2x16384x256, .f32⟩
  | 67 => ⟨S2x16384x256, .f32⟩
  | 68 => ⟨S2x16384x256, .f32⟩
  | 69 => ⟨S1x256, .f32⟩
  | 70 => ⟨S256, .f32⟩
  | 71 => ⟨S2x16384x256, .f32⟩
  | 72 => ⟨S1x1x256, .f32⟩
  | 73 => ⟨S2x16384x256, .f32⟩
  | 74 => ⟨S2x16384x256, .f32⟩
  | 75 => ⟨S2x16384x256, .f32⟩
  | 76 => ⟨S1x256, .f32⟩
  | 77 => ⟨S256, .f32⟩
  | 78 => ⟨S2x16384x256, .f32⟩
  | 79 => ⟨S1x1x256, .f32⟩
  | 80 => ⟨S2x16384x256, .f32⟩
  | 81 => ⟨S2x16384x256, .f32⟩
  | 82 => ⟨S2x16384x256, .f32⟩
  | 83 => ⟨S1x256, .f32⟩
  | 84 => ⟨S256, .f32⟩
  | 85 => ⟨S2x16384x256, .f32⟩
  | 86 => ⟨S1x1x256, .f32⟩
  | 87 => ⟨S2x16384x256, .f32⟩
  | 88 => ⟨S2x16384x256, .f32⟩
  | 89 => ⟨S2x16384x256, .f32⟩
  | 90 => ⟨S1x256, .f32⟩
  | 91 => ⟨S256, .f32⟩
  | 92 => ⟨S2x16384x256, .f32⟩
  | 93 => ⟨S1x1x256, .f32⟩
  | 94 => ⟨S2x16384x256, .f32⟩
  | 95 => ⟨S2x16384x256, .f32⟩
  | 96 => ⟨S2x16384x256, .f32⟩
  | 97 => ⟨S1x256, .f32⟩
  | 98 => ⟨S256, .f32⟩
  | 99 => ⟨S2x16384x256, .f32⟩
  | 100 => ⟨S1x1x256, .f32⟩
  | 101 => ⟨S2x16384x256, .f32⟩
  | 102 => ⟨S2x16384x256, .f32⟩
  | 103 => ⟨S2x16384x256, .f32⟩
  | 104 => ⟨S1x256, .f32⟩
  | 105 => ⟨S256, .f32⟩
  | 106 => ⟨S2x16384x256, .f32⟩
  | 107 => ⟨S1x1x256, .f32⟩
  | 108 => ⟨S2x16384x256, .f32⟩
  | 109 => ⟨S2x16384x256, .f32⟩
  | 110 => ⟨S2x16384x256, .f32⟩
  | 111 => ⟨S1x256, .f32⟩
  | 112 => ⟨S256, .f32⟩
  | 113 => ⟨S2x16384x256, .f32⟩
  | 114 => ⟨S1x1x256, .f32⟩
  | 115 => ⟨S2x16384x256, .f32⟩
  | 116 => ⟨S2x16384x256, .f32⟩
  | 117 => ⟨S2x16384x256, .f32⟩
  | 118 => ⟨S1x256, .f32⟩
  | 119 => ⟨S256, .f32⟩
  | 120 => ⟨S2x16384x256, .f32⟩
  | 121 => ⟨S1x1x256, .f32⟩
  | 122 => ⟨S2x16384x256, .f32⟩
  | 123 => ⟨S2x16384x256, .f32⟩
  | 124 => ⟨S2x16384x256, .f32⟩
  | 125 => ⟨S1x256, .f32⟩
  | 126 => ⟨S256, .f32⟩
  | 127 => ⟨S2x16384x256, .f32⟩
  | _ => ⟨S2x16384x512, .f32⟩

abbrev hbmTy0_1 (i : Nat) : BufTy := match i % 128 with
  | 0 => ⟨S1x1x256, .f32⟩
  | 1 => ⟨S2x16384x256, .f32⟩
  | 2 => ⟨S2x16384x256, .f32⟩
  | 3 => ⟨S2x16384x256, .f32⟩
  | 4 => ⟨S1x256, .f32⟩
  | 5 => ⟨S256, .f32⟩
  | 6 => ⟨S2x16384x256, .f32⟩
  | 7 => ⟨S1x1x256, .f32⟩
  | 8 => ⟨S2x16384x256, .f32⟩
  | 9 => ⟨S2x16384x256, .f32⟩
  | 10 => ⟨S2x16384x256, .f32⟩
  | 11 => ⟨S1x256, .f32⟩
  | 12 => ⟨S256, .f32⟩
  | 13 => ⟨S2x16384x256, .f32⟩
  | 14 => ⟨S1x1x256, .f32⟩
  | 15 => ⟨S2x16384x256, .f32⟩
  | 16 => ⟨S2x16384x256, .f32⟩
  | 17 => ⟨S2x16384x256, .f32⟩
  | 18 => ⟨S1x256, .f32⟩
  | 19 => ⟨S256, .f32⟩
  | 20 => ⟨S2x16384x256, .f32⟩
  | 21 => ⟨S1x1x256, .f32⟩
  | 22 => ⟨S2x16384x256, .f32⟩
  | 23 => ⟨S2x16384x256, .f32⟩
  | 24 => ⟨S2x16384x256, .f32⟩
  | 25 => ⟨S1x256, .f32⟩
  | 26 => ⟨S256, .f32⟩
  | 27 => ⟨S2x16384x256, .f32⟩
  | 28 => ⟨S1x1x256, .f32⟩
  | 29 => ⟨S2x16384x256, .f32⟩
  | 30 => ⟨S2x16384x256, .f32⟩
  | 31 => ⟨S2x16384x256, .f32⟩
  | 32 => ⟨S1x256, .f32⟩
  | 33 => ⟨S256, .f32⟩
  | 34 => ⟨S2x16384x256, .f32⟩
  | 35 => ⟨S1x1x256, .f32⟩
  | 36 => ⟨S2x16384x256, .f32⟩
  | 37 => ⟨S2x16384x256, .f32⟩
  | 38 => ⟨S2x16384x256, .f32⟩
  | 39 => ⟨S1x256, .f32⟩
  | 40 => ⟨S256, .f32⟩
  | 41 => ⟨S2x16384x256, .f32⟩
  | 42 => ⟨S1x1x256, .f32⟩
  | 43 => ⟨S2x16384x256, .f32⟩
  | 44 => ⟨S2x16384x256, .f32⟩
  | 45 => ⟨S2x16384x256, .f32⟩
  | 46 => ⟨S1x256, .f32⟩
  | 47 => ⟨S256, .f32⟩
  | 48 => ⟨S2x16384x256, .f32⟩
  | 49 => ⟨S1x1x256, .f32⟩
  | 50 => ⟨S2x16384x256, .f32⟩
  | 51 => ⟨S2x16384x256, .f32⟩
  | 52 => ⟨S2x16384x256, .f32⟩
  | 53 => ⟨S1x256, .f32⟩
  | 54 => ⟨S256, .f32⟩
  | 55 => ⟨S2x16384x256, .f32⟩
  | 56 => ⟨S1x1x256, .f32⟩
  | 57 => ⟨S2x16384x256, .f32⟩
  | 58 => ⟨S2x16384x256, .f32⟩
  | 59 => ⟨S2x16384x256, .f32⟩
  | 60 => ⟨S1x256, .f32⟩
  | 61 => ⟨S256, .f32⟩
  | 62 => ⟨S2x16384x256, .f32⟩
  | 63 => ⟨S1x1x256, .f32⟩
  | 64 => ⟨S2x16384x256, .f32⟩
  | 65 => ⟨S2x16384x256, .f32⟩
  | 66 => ⟨S2x16384x256, .f32⟩
  | 67 => ⟨S1x256, .f32⟩
  | 68 => ⟨S256, .f32⟩
  | 69 => ⟨S2x16384x256, .f32⟩
  | 70 => ⟨S1x1x256, .f32⟩
  | 71 => ⟨S2x16384x256, .f32⟩
  | 72 => ⟨S2x16384x256, .f32⟩
  | 73 => ⟨S2x16384x256, .f32⟩
  | 74 => ⟨S1x256, .f32⟩
  | 75 => ⟨S256, .f32⟩
  | 76 => ⟨S2x16384x256, .f32⟩
  | 77 => ⟨S1x1x256, .f32⟩
  | 78 => ⟨S2x16384x256, .f32⟩
  | 79 => ⟨S2x16384x256, .f32⟩
  | 80 => ⟨S2x16384x256, .f32⟩
  | 81 => ⟨S1x256, .f32⟩
  | 82 => ⟨S256, .f32⟩
  | 83 => ⟨S2x16384x256, .f32⟩
  | 84 => ⟨S1x1x256, .f32⟩
  | 85 => ⟨S2x16384x256, .f32⟩
  | 86 => ⟨S2x16384x256, .f32⟩
  | 87 => ⟨S2x16384x256, .f32⟩
  | 88 => ⟨S1x256, .f32⟩
  | 89 => ⟨S256, .f32⟩
  | 90 => ⟨S2x16384x256, .f32⟩
  | 91 => ⟨S1x1x256, .f32⟩
  | 92 => ⟨S2x16384x256, .f32⟩
  | 93 => ⟨S2x16384x256, .f32⟩
  | 94 => ⟨S2x16384x256, .f32⟩
  | 95 => ⟨S1x256, .f32⟩
  | 96 => ⟨S256, .f32⟩
  | 97 => ⟨S2x16384x256, .f32⟩
  | 98 => ⟨S1x1x256, .f32⟩
  | 99 => ⟨S2x16384x256, .f32⟩
  | 100 => ⟨S2x16384x256, .f32⟩
  | 101 => ⟨S2x16384x256, .f32⟩
  | 102 => ⟨S1x256, .f32⟩
  | 103 => ⟨S256, .f32⟩
  | 104 => ⟨S2x16384x256, .f32⟩
  | 105 => ⟨S1x1x256, .f32⟩
  | 106 => ⟨S2x16384x256, .f32⟩
  | 107 => ⟨S2x16384x256, .f32⟩
  | 108 => ⟨S2x16384x256, .f32⟩
  | 109 => ⟨S1x1x256, .f32⟩
  | 110 => ⟨S2x16384x256, .f32⟩
  | 111 => ⟨S2x16384x256, .f32⟩
  | 112 => ⟨S_, .f32⟩
  | 113 => ⟨S2x16384, .f32⟩
  | 114 => ⟨S2x16384x1, .f32⟩
  | 115 => ⟨S_, .f32⟩
  | 116 => ⟨S2x16384x1, .f32⟩
  | 117 => ⟨S2x16384x1, .f32⟩
  | 118 => ⟨S2x16384x256, .f32⟩
  | 119 => ⟨S2x16384x256, .f32⟩
  | 120 => ⟨S2x16384x256, .f32⟩
  | 121 => ⟨S_, .f32⟩
  | 122 => ⟨S2x16384, .f32⟩
  | 123 => ⟨S2x16384x1, .f32⟩
  | 124 => ⟨S_, .f32⟩
  | 125 => ⟨S2x16384x1, .f32⟩
  | 126 => ⟨S2x16384x1, .f32⟩
  | 127 => ⟨S2x16384x256, .f32⟩
  | _ => ⟨S2x16384x512, .f32⟩

abbrev hbmTy0_2 (i : Nat) : BufTy := match i % 128 with
  | 0 => ⟨S2x16384x256, .f32⟩
  | 1 => ⟨S_, .f32⟩
  | 2 => ⟨S2x16384x1, .f32⟩
  | 3 => ⟨S2x16384x1, .f32⟩
  | 4 => ⟨S2x16384x1, .f32⟩
  | 5 => ⟨S2x16384x256, .f32⟩
  | 6 => ⟨S2x16384x256, .f32⟩
  | 7 => ⟨S1x1x256, .f32⟩
  | 8 => ⟨S2x16384x256, .f32⟩
  | 9 => ⟨S2x16384x256, .f32⟩
  | 10 => ⟨S1x1x256, .f32⟩
  | 11 => ⟨S2x16384x256, .f32⟩
  | 12 => ⟨S2x16384x256, .f32⟩
  | 13 => ⟨S2x16384x256, .f32⟩
  | 14 => ⟨S2x16384x256, .f32⟩
  | 15 => ⟨S_, .f32⟩
  | 16 => ⟨S2x16384x256, .f32⟩
  | 17 => ⟨S2x16384x256, .f32⟩
  | 18 => ⟨S_, .f32⟩
  | 19 => ⟨S2x16384x256, .f32⟩
  | 20 => ⟨S2x16384x256, .f32⟩
  | 21 => ⟨S2x16384x256, .f32⟩
  | 22 => ⟨S2x16384x256, .bf16⟩
  | 23 => ⟨S2x32x256, .f32⟩
  | _ => ⟨S2x16384x512, .f32⟩

abbrev hbmTy (i : Nat) : BufTy := match i / 128 with
  | 0 => hbmTy0_0 i
  | 1 => hbmTy0_1 i
  | 2 => hbmTy0_2 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Router.lean ====
abbrev S32768x1024 : Shape := ⟨2, ![32768, 1024]⟩
abbrev S32768x256 : Shape := ⟨2, ![32768, 256]⟩
abbrev S32768x384 : Shape := ⟨2, ![32768, 384]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S256x1024 : Shape := ⟨2, ![256, 1024]⟩
abbrev S384x1024 : Shape := ⟨2, ![384, 1024]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S32768x128 : Shape := ⟨2, ![32768, 128]⟩
abbrev S512x1024 : Shape := ⟨2, ![512, 1024]⟩
abbrev S512x256 : Shape := ⟨2, ![512, 256]⟩
abbrev S512x384 : Shape := ⟨2, ![512, 384]⟩
abbrev S512x128 : Shape := ⟨2, ![512, 128]⟩
abbrev S512 : Shape := ⟨1, ![512]⟩
abbrev S512x1 : Shape := ⟨2, ![512, 1]⟩

abbrev nBuf : Space → Nat
  | .hbm => 29
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x384, .bf16⟩
  | .hbm, ⟨3, _⟩ => ⟨S32768x384, .bf16⟩
  | .hbm, ⟨4, _⟩ => ⟨S1024x1024, .f32⟩
  | .hbm, ⟨5, _⟩ => ⟨S1024, .f32⟩
  | .hbm, ⟨6, _⟩ => ⟨S1024x8, .f32⟩
  | .hbm, ⟨7, _⟩ => ⟨S8, .f32⟩
  | .hbm, ⟨8, _⟩ => ⟨S1024x1024, .bf16⟩
  | .hbm, ⟨9, _⟩ => ⟨S256x1024, .bf16⟩
  | .hbm, ⟨10, _⟩ => ⟨S384x1024, .bf16⟩
  | .hbm, ⟨11, _⟩ => ⟨S384x1024, .bf16⟩
  | .hbm, ⟨12, _⟩ => ⟨S1x1024, .f32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S32768x1024, .f32⟩
  | .hbm, ⟨27, _⟩ => ⟨S32768x1024, .bf16⟩
  | .hbm, ⟨28, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S256x1024, .bf16⟩
  | .local _ .vmem, ⟨9, _⟩ => ⟨S384x1024, .bf16⟩
  | .local _ .vmem, ⟨10, _⟩ => ⟨S384x1024, .bf16⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Proof.ProjValue.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Claim

/-! The input projections: what the tiled kernel leaves in its four result arrays is the columns of the one product
`rmsnorm(x) * g @ w_in`, in the order in which the reference lays them side by side. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ProjRefIdeal.Spec

open Cert.ProjRefIdeal Cert.ProjRefIdeal.Gen

/-- The reference's normalised tokens: each row of `X` times the reciprocal root of its mean square, times `g`. -/
def normed (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0
      (Host.reduceAdd (mulf X X) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's whole projection. -/
def proj (X : FVec Ideal S32768x1024 .f32) (g : FVec Ideal S1024 .f32) (W : FVec Ideal S1024x3090 .f32) :
    FVec Ideal S32768x3090 .f32 :=
  Host.dotGeneral dot_S32768x1024_S1024x3090_S32768x3090_1_0_0_1_n_n none (normed X g) W

/-- Columns 0 to 511: the gated convolution's input. -/
def res0 (X : FVec Ideal S32768x1024 .f32) (g : FVec Ideal S1024 .f32) (W : FVec Ideal S1024x3090 .f32) :
    FVec Ideal S32768x512 .f32 :=
  extractStridedSlice S32768x512 ![0, 0] (proj X g W) slices_S32768x3090_S32768x512_0_0

/-- Columns 512 to 1535: the state-space branch's gate and channels. -/
def res1 (X : FVec Ideal S32768x1024 .f32) (g : FVec Ideal S1024 .f32) (W : FVec Ideal S1024x3090 .f32) :
    FVec Ideal S32768x1024 .f32 :=
  concatenate S32768x1024 1
    [⟨S32768x384, extractStridedSlice S32768x384 ![0, 512] (proj X g W) slices_S32768x3090_S32768x384_0_512⟩,
     ⟨S32768x640, extractStridedSlice S32768x640 ![0, 896] (proj X g W) slices_S32768x3090_S32768x640_0_896⟩]
    concatenates_S32768x384_S32768x640_S32768x1024_d1

/-- Columns 1542 to 3077: the delta-rule branch's queries, keys, values and gate. -/
def res2 (X : FVec Ideal S32768x1024 .f32) (g : FVec Ideal S1024 .f32) (W : FVec Ideal S1024x3090 .f32) :
    FVec Ideal S32768x1536 .f32 :=
  concatenate S32768x1536 1
    [⟨S32768x1152, extractStridedSlice S32768x1152 ![0, 1542] (proj X g W) slices_S32768x3090_S32768x1152_0_1542⟩,
     ⟨S32768x384, extractStridedSlice S32768x384 ![0, 2694] (proj X g W) slices_S32768x3090_S32768x384_0_2694⟩]
    concatenates_S32768x1152_S32768x384_S32768x1536_d1

/-- Columns 1536 to 1541 and 3078 to 3089, the per-head scalars, then 110 columns of zeros. -/
def res3 (X : FVec Ideal S32768x1024 .f32) (g : FVec Ideal S1024 .f32) (W : FVec Ideal S1024x3090 .f32) :
    FVec Ideal S32768x128 .f32 :=
  concatenate S32768x128 1
    [⟨S32768x6, extractStridedSlice S32768x6 ![0, 1536] (proj X g W) slices_S32768x3090_S32768x6_0_1536⟩,
     ⟨S32768x6, extractStridedSlice S32768x6 ![0, 3078] (proj X g W) slices_S32768x3090_S32768x6_0_3078⟩,
     ⟨S32768x6, extractStridedSlice S32768x6 ![0, 3084] (proj X g W) slices_S32768x3090_S32768x6_0_3084⟩,
     ⟨S32768x110, broadcastInDim S32768x110 ![] bcast_S_S32768x110 (constant S_ .f32 0x00000000#32)⟩]
    concatenates_S32768x6_S32768x6_S32768x6_S32768x110_S32768x128_d1

end Cert.ProjRefIdeal.Spec

namespace Cert.ProjIdeal.RefValue

open Cert.ProjIdeal Cert.ProjIdeal.Gen Cert.ProjRefIdeal.Spec

variable (m : (ℓ : Loc nD τ sig) → Buf (Elt Ideal) ℓ)

/-- Which block of its array each window holds at point `t`: row block `t` of the tokens and of the results, the whole
of the weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The reference's normalised tokens over the kernel's arguments. -/
abbrev N (c : Dev nD) : FVec Ideal Cert.ProjRefIdeal.S32768x1024 .f32 :=
  normed (m ((c : Thread nD τ).loc main_arg0)) (m ((c : Thread nD τ).loc main_arg1))

/-- The reference's projection over the kernel's arguments. -/
abbrev P (c : Dev nD) : FVec Ideal Cert.ProjRefIdeal.S32768x3090 .f32 :=
  proj (m ((c : Thread nD τ).loc main_arg0)) (m ((c : Thread nD τ).loc main_arg1)) (m ((c : Thread nD τ).loc main_arg2))

/-- The kernel's normalised block at point `t` is the reference's rows of that block. -/
theorem nblk_at (c : Dev nD) (t : Fin cfg0.N) (y : S512x1024.Idx) (i : Cert.ProjRefIdeal.S32768x1024.Idx)
    (h0 : (i 0 : ℕ) = t.val * 512 + y 0) (h1 : (i 1 : ℕ) = y 1) : k0_pay1 (iblk m c 0 t) (iblk m c 1 t) y = N m c i := by
  pointwise [N, k0_pay1, normed]
  blk_point [iblk, V, idx t]

/-- The projection at row `r`, column `j` is the sum over the channels. -/
theorem P_at (c : Dev nD) (r : Fin 32768) (j : Fin 3090) :
    P m c (ix2 r j) = ∑ k : Fin 1024, N m c (ix2 r k) * m ((c : Thread nD τ).loc main_arg2) (ix2 k j) := by
  pointwise [P, proj]

/-- The first weight operand is columns 0 to 511 of the weight. -/
theorem wa_at (c : Dev nD) (t : Fin cfg0.N) (k : Fin 1024) (j : Fin 512) :
    iblk m c 2 t (ix2 k j) = m ((c : Thread nD τ).loc main_arg2) (ix2 k ⟨j.val, by omega⟩) := by
  blk_point [iblk, V, idx t]

/-- The second weight operand is columns 512 to 1535 of the weight. -/
theorem wzx_at (c : Dev nD) (t : Fin cfg0.N) (k : Fin 1024) (j : Fin 1024) :
    iblk m c 3 t (ix2 k j) = m ((c : Thread nD τ).loc main_arg2) (ix2 k ⟨512 + j.val, by omega⟩) := by
  have e : ((cfg0.win 3).blk t).view.emb (ix2 k j) = ix2 k j := by blk_ext [idx t]
  show V m c main_v24 (((cfg0.win 3).blk t).view.emb (ix2 k j)) = _
  rw [e]
  entry_read
  pointwise
  split
  · blk_ext
  · blk_ext

/-- The third weight operand is columns 1542 to 3077 of the weight. -/
theorem wqg_at (c : Dev nD) (t : Fin cfg0.N) (k : Fin 1024) (j : Fin 1536) :
    iblk m c 4 t (ix2 k j) = m ((c : Thread nD τ).loc main_arg2) (ix2 k ⟨1542 + j.val, by omega⟩) := by
  have e : ((cfg0.win 4).blk t).view.emb (ix2 k j) = ix2 k j := by blk_ext [idx t]
  show V m c main_v26 (((cfg0.win 4).blk t).view.emb (ix2 k j)) = _
  rw [e]
  entry_read
  pointwise
  split
  · blk_ext
  · blk_ext

/-- The weight's small columns side by side, then zeros. -/
def small (W : FVec Ideal S1024x3090 .f32) : FVec Ideal S1024x128 .f32 :=
  concatenate S1024x128 1
    [⟨S1024x6, extractStridedSlice S1024x6 ![0, 1536] W slices_S1024x3090_S1024x6_0_1536⟩,
     ⟨S1024x6, extractStridedSlice S1024x6 ![0, 3078] W slices_S1024x3090_S1024x6_0_3078⟩,
     ⟨S1024x6, extractStridedSlice S1024x6 ![0, 3084] W slices_S1024x3090_S1024x6_0_3084⟩,
     ⟨S1024x110, broadcastInDim S1024x110 ![] bcast_S_S1024x110 (constant S_ .f32 0x00000000#32)⟩]
    concatenates_S1024x6_S1024x6_S1024x6_S1024x110_S1024x128_d1

/-- The small columns, entry by entry. -/
theorem small_at (W : FVec Ideal S1024x3090 .f32) (k : Fin 1024) (j : Fin 128) :
    small W (ix2 k j) = if h : j.val < 6 then W (ix2 k ⟨1536 + j.val, by omega⟩)
      else if h' : j.val < 18 then W (ix2 k ⟨3072 + j.val, by omega⟩) else (0 : EReal) := by
  pointwise [small]
  by_cases h6 : j.val < 6
  · simp only [h6, dite_true]
  · by_cases h12 : j.val - 6 < 6
    · simp only [h6, h12, dite_true, dite_false, show j.val < 18 by omega]
      blk_ext
    · by_cases h18 : j.val - 6 - 6 < 6
      · simp only [h6, h12, h18, dite_true, dite_false, show j.val < 18 by omega]
        blk_ext
      · simp only [h6, h12, h18, dite_false, show ¬ j.val < 18 by omega]

/-- The weight as the host passes it on: under a leading axis of extent one and back. -/
def wgt (W : FVec Ideal S1024x3090 .f32) : FVec Ideal S1024x3090 .f32 :=
  shapeCast S1024x3090 (broadcastInDim S1x1024x3090 ![1, 2] bcast_S1024x3090_S1x1024x3090_1_2 W)
    shapeCasts_S1x1024x3090_S1024x3090

/-- That is the weight itself. -/
theorem wgt_at (W : FVec Ideal S1024x3090 .f32) (k : Fin 1024) (j : Fin 3090) : wgt W (ix2 k j) = W (ix2 k j) := by
  pointwise [wgt]

/-- What the host leaves in the fourth weight operand. -/
theorem V_small (c : Dev nD) : V m c main_v27 = small (wgt (m ((c : Thread nD τ).loc main_arg2))) := rfl

/-- The fourth weight operand is columns 1536 to 1541 and 3078 to 3089 of the weight, then zeros. -/
theorem ws_at (c : Dev nD) (t : Fin cfg0.N) (k : Fin 1024) (j : Fin 128) :
    iblk m c 5 t (ix2 k j) = if h : j.val < 6 then m ((c : Thread nD τ).loc main_arg2) (ix2 k ⟨1536 + j.val, by omega⟩)
      else if h' : j.val < 18 then m ((c : Thread nD τ).loc main_arg2) (ix2 k ⟨3072 + j.val, by omega⟩) else (0 : EReal) := by
  have e : ((cfg0.win 5).blk t).view.emb (ix2 k j) = ix2 k j := by blk_ext [idx t]
  show V m c main_v27 (((cfg0.win 5).blk t).view.emb (ix2 k j)) = _
  rw [e, V_small]
  refine (small_at _ k j).trans ?_
  simp only [wgt_at]

/-- The first result of the reference is columns 0 to 511 of its projection. -/
theorem res0_at (X : FVec Ideal Cert.ProjRefIdeal.S32768x1024 .f32) (g : FVec Ideal Cert.ProjRefIdeal.S1024 .f32)
    (W : FVec Ideal Cert.ProjRefIdeal.S1024x3090 .f32) (r : Fin 32768) (j : Fin 512) :
    res0 X g W (ix2 r j) = proj X g W (ix2 r ⟨j.val, by omega⟩) := by
  pointwise [res0]

/-- The second result of the reference is columns 512 to 1535 of its projection. -/
theorem res1_at (X : FVec Ideal Cert.ProjRefIdeal.S32768x1024 .f32) (g : FVec Ideal Cert.ProjRefIdeal.S1024 .f32)
    (W : FVec Ideal Cert.ProjRefIdeal.S1024x3090 .f32) (r : Fin 32768) (j : Fin 1024) :
    res1 X g W (ix2 r j) = proj X g W (ix2 r ⟨512 + j.val, by omega⟩) := by
  pointwise [res1]
  split <;> blk_ext

/-- The third result of the reference is columns 1542 to 3077 of its projection. -/
theorem res2_at (X : FVec Ideal Cert.ProjRefIdeal.S32768x1024 .f32) (g : FVec Ideal Cert.ProjRefIdeal.S1024 .f32)
    (W : FVec Ideal Cert.ProjRefIdeal.S1024x3090 .f32) (r : Fin 32768) (j : Fin 1536) :
    res2 X g W (ix2 r j) = proj X g W (ix2 r ⟨1542 + j.val, by omega⟩) := by
  pointwise [res2]
  split <;> blk_ext

/-- The fourth result of the reference is columns 1536 to 1541 and 3078 to 3089 of its projection, then zeros. -/
theorem res3_at (X : FVec Ideal Cert.ProjRefIdeal.S32768x1024 .f32) (g : FVec Ideal Cert.ProjRefIdeal.S1024 .f32)
    (W : FVec Ideal Cert.ProjRefIdeal.S1024x3090 .f32) (r : Fin 32768) (j : Fin 128) :
    res3 X g W (ix2 r j) = if h : j.val < 6 then proj X g W (ix2 r ⟨1536 + j.val, by omega⟩)
      else if h' : j.val < 18 then proj X g W (ix2 r ⟨3072 + j.val, by omega⟩) else (0 : EReal) := by
  pointwise [res3]
  by_cases h6 : j.val < 6
  · simp only [h6, dite_true]
  · by_cases h12 : j.val - 6 < 6
    · simp only [h6, h12, dite_true, dite_false, show j.val < 18 by omega]
      blk_ext
    · by_cases h18 : j.val - 6 - 6 < 6
      · simp only [h6, h12, h18, dite_true, dite_false, show j.val < 18 by omega]
        blk_ext
      · simp only [h6, h12, h18, dite_false, show ¬ j.val < 18 by omega]

end Cert.ProjIdeal.RefValue
-- ==== Proof.ProjValue0.lean ====
module

public import proofs.«01_k».proof.Proof.ProjValue

/-! The input projections: the first result. -/

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen Cert.ProjRefIdeal.Spec

variable (m : (ℓ : Loc nD τ sig) → Buf (Elt Ideal) ℓ)

/-- The first result's block at point `t` is the reference's rows of that block. -/
theorem point0 (c : Dev nD) (t : Fin cfg0.N) (y) : k0_pay2 (iblk m c 0 t) (iblk m c 1 t) (iblk m c 2 t) y
    = res0 (m ((c : Thread nD τ).loc main_arg0)) (m ((c : Thread nD τ).loc main_arg1)) (m ((c : Thread nD τ).loc main_arg2))
      (((cfg0.win 6).blk t).view.emb y) := by
  have e : ∀ k : Fin 1024, k0_pay1 (iblk m c 0 t) (iblk m c 1 t) (ix2 (y 0) k)
      = N m c (ix2 ((((cfg0.win 6).blk t).view.emb y) 0) k) := fun k => nblk_at m c t _ _ (by blk_simp [idx t]) rfl
  have hj : ((((cfg0.win 6).blk t).view.emb y) 1 : ℕ) = y 1 := by blk_simp [idx t]
  generalize ((cfg0.win 6).blk t).view.emb y = i at e hj ⊢
  obtain ⟨r, j, rfl⟩ : ∃ (r : Fin 32768) (j : Fin 512), i = ix2 r j := ⟨i 0, i 1, by blk_ext⟩
  refine Eq.trans ?_ (res0_at _ _ _ r j).symm
  refine Eq.trans ?_ (P_at m c r _).symm
  pointwise [k0_pay2]
  have hj' : (y 1 : ℕ) = (j : ℕ) := hj.symm
  refine Fin.sum_fin_congr fun k => congrArg₂ (· * ·) (e k) ?_
  refine (wa_at m c t k (y 1)).trans ?_
  blk_ext [hj']

/-- The first result array is the reference's. -/
theorem final0 (c : Dev nD) : (dats m 0 c).arrAt 6 (cfgs 0).N
    = res0 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  exact point0 m c t y

end Cert.ProjIdeal.RefValue
-- ==== Proof.ProjValue1.lean ====
module

public import proofs.«01_k».proof.Proof.ProjValue

/-! The input projections: the second result. -/

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen Cert.ProjRefIdeal.Spec

variable (m : (ℓ : Loc nD τ sig) → Buf (Elt Ideal) ℓ)

/-- The second result's block at point `t` is the reference's rows of that block. -/
theorem point1 (c : Dev nD) (t : Fin cfg0.N) (y) : k0_pay3 (iblk m c 0 t) (iblk m c 1 t) (iblk m c 3 t) y
    = res1 (m ((c : Thread nD τ).loc main_arg0)) (m ((c : Thread nD τ).loc main_arg1)) (m ((c : Thread nD τ).loc main_arg2))
      (((cfg0.win 7).blk t).view.emb y) := by
  have e : ∀ k : Fin 1024, k0_pay1 (iblk m c 0 t) (iblk m c 1 t) (ix2 (y 0) k)
      = N m c (ix2 ((((cfg0.win 7).blk t).view.emb y) 0) k) := fun k => nblk_at m c t _ _ (by blk_simp [idx t]) rfl
  have hj : ((((cfg0.win 7).blk t).view.emb y) 1 : ℕ) = y 1 := by blk_simp [idx t]
  generalize ((cfg0.win 7).blk t).view.emb y = i at e hj ⊢
  obtain ⟨r, j, rfl⟩ : ∃ (r : Fin 32768) (j : Fin 1024), i = ix2 r j := ⟨i 0, i 1, by blk_ext⟩
  refine Eq.trans ?_ (res1_at _ _ _ r j).symm
  refine Eq.trans ?_ (P_at m c r _).symm
  pointwise [k0_pay3]
  have hj' : (y 1 : ℕ) = (j : ℕ) := hj.symm
  refine Fin.sum_fin_congr fun k => congrArg₂ (· * ·) (e k) ?_
  refine (wzx_at m c t k (y 1)).trans ?_
  blk_ext [hj']

/-- The second result array is the reference's. -/
theorem final1 (c : Dev nD) : (dats m 0 c).arrAt 7 (cfgs 0).N
    = res1 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  exact point1 m c t y

end Cert.ProjIdeal.RefValue
-- ==== Proof.ProjValue2.lean ====
module

public import proofs.«01_k».proof.Proof.ProjValue

/-! The input projections: the third result. -/

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen Cert.ProjRefIdeal.Spec

variable (m : (ℓ : Loc nD τ sig) → Buf (Elt Ideal) ℓ)

/-- The third result's block at point `t` is the reference's rows of that block. -/
theorem point2 (c : Dev nD) (t : Fin cfg0.N) (y) : k0_pay4 (iblk m c 0 t) (iblk m c 1 t) (iblk m c 4 t) y
    = res2 (m ((c : Thread nD τ).loc main_arg0)) (m ((c : Thread nD τ).loc main_arg1)) (m ((c : Thread nD τ).loc main_arg2))
      (((cfg0.win 8).blk t).view.emb y) := by
  have e : ∀ k : Fin 1024, k0_pay1 (iblk m c 0 t) (iblk m c 1 t) (ix2 (y 0) k)
      = N m c (ix2 ((((cfg0.win 8).blk t).view.emb y) 0) k) := fun k => nblk_at m c t _ _ (by blk_simp [idx t]) rfl
  have hj : ((((cfg0.win 8).blk t).view.emb y) 1 : ℕ) = y 1 := by blk_simp [idx t]
  generalize ((cfg0.win 8).blk t).view.emb y = i at e hj ⊢
  obtain ⟨r, j, rfl⟩ : ∃ (r : Fin 32768) (j : Fin 1536), i = ix2 r j := ⟨i 0, i 1, by blk_ext⟩
  refine Eq.trans ?_ (res2_at _ _ _ r j).symm
  refine Eq.trans ?_ (P_at m c r _).symm
  pointwise [k0_pay4]
  have hj' : (y 1 : ℕ) = (j : ℕ) := hj.symm
  refine Fin.sum_fin_congr fun k => congrArg₂ (· * ·) (e k) ?_
  refine (wqg_at m c t k (y 1)).trans ?_
  blk_ext [hj']

/-- The third result array is the reference's. -/
theorem final2 (c : Dev nD) : (dats m 0 c).arrAt 8 (cfgs 0).N
    = res2 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  exact point2 m c t y

end Cert.ProjIdeal.RefValue
-- ==== Proof.ProjValue3.lean ====
module

public import proofs.«01_k».proof.Proof.ProjValue

/-! The input projections: the fourth result. -/

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen Cert.ProjRefIdeal.Spec

variable (m : (ℓ : Loc nD τ sig) → Buf (Elt Ideal) ℓ)

/-- The fourth result's block at point `t` is the reference's rows of that block. -/
theorem point3 (c : Dev nD) (t : Fin cfg0.N) (y) : k0_pay5 (iblk m c 0 t) (iblk m c 1 t) (iblk m c 5 t) y
    = res3 (m ((c : Thread nD τ).loc main_arg0)) (m ((c : Thread nD τ).loc main_arg1)) (m ((c : Thread nD τ).loc main_arg2))
      (((cfg0.win 9).blk t).view.emb y) := by
  have e : ∀ k : Fin 1024, k0_pay1 (iblk m c 0 t) (iblk m c 1 t) (ix2 (y 0) k)
      = N m c (ix2 ((((cfg0.win 9).blk t).view.emb y) 0) k) := fun k => nblk_at m c t _ _ (by blk_simp [idx t]) rfl
  have hj : ((((cfg0.win 9).blk t).view.emb y) 1 : ℕ) = y 1 := by blk_simp [idx t]
  generalize ((cfg0.win 9).blk t).view.emb y = i at e hj ⊢
  obtain ⟨r, j, rfl⟩ : ∃ (r : Fin 32768) (j : Fin 128), i = ix2 r j := ⟨i 0, i 1, by blk_ext⟩
  refine Eq.trans ?_ (res3_at _ _ _ r j).symm
  pointwise [k0_pay5]
  have ej : (y 1 : Fin 128) = j := Fin.ext hj.symm
  refine Eq.trans (Fin.sum_fin_congr (G := fun k : Fin 1024 => N m c (ix2 r k) *
    if h : j.val < 6 then m ((c : Thread nD τ).loc main_arg2) (ix2 k ⟨1536 + j.val, by omega⟩)
      else if h' : j.val < 18 then m ((c : Thread nD τ).loc main_arg2) (ix2 k ⟨3072 + j.val, by omega⟩) else (0 : EReal))
    fun k => congrArg₂ (· * ·) (e k) ?_) ?_
  · rw [← ej]; exact ws_at m c t k (y 1)
  · by_cases h6 : j.val < 6
    · simp only [h6, dite_true]; exact (P_at m c r _).symm
    · by_cases h18 : j.val < 18
      · simp only [h6, h18, dite_true, dite_false]; exact (P_at m c r _).symm
      · simp only [h6, h18, dite_false, mul_zero, Finset.sum_const_zero]

/-- The fourth result array is the reference's. -/
theorem final3 (c : Dev nD) : (dats m 0 c).arrAt 9 (cfgs 0).N
    = res3 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  exact point3 m c t y

end Cert.ProjIdeal.RefValue
-- ==== Proof.ProjClaim.lean ====
module

public import proofs.«01_k».proof.Defs
public import proofs.«01_k».proof.Proof.ProjValue0
public import proofs.«01_k».proof.Proof.ProjValue1
public import proofs.«01_k».proof.Proof.ProjValue2
public import proofs.«01_k».proof.Proof.ProjValue3

/-! The input projections: the claim. -/

@[expose] public section

set_option maxRecDepth 16384

noncomputable section

open Idealize.ShloMosaic Idealize.ShloMosaic.TcCoe Idealize.SL.Sem Cert.ProjRefIdeal.Spec

namespace Cert.Proof

/-- Equal arguments give equal values. -/
theorem congr3 {A B C D : Type _} (f : A → B → C → D) {a a' : A} {b b' : B} {c c' : C} (ha : a = a') (hb : b = b')
    (hc : c = c') : f a b c = f a' b' c' := by
  subst ha hb hc
  rfl

section
open Cert.ProjRefIdeal Cert.ProjRefIdeal.Gen

set_option maxHeartbeats 1000000 in
/-- The reference's run: it leaves the four arrangements of its projection's columns. -/
theorem run_ProjRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = res0 (m ((c.tc : Thread nD τ).loc main_arg0)) (m ((c.tc : Thread nD τ).loc main_arg1)) (m ((c.tc : Thread nD τ).loc main_arg2))
      ∧ r.2.mem ((c.tc : Thread nD τ).loc main_v24) = res1 (m ((c.tc : Thread nD τ).loc main_arg0)) (m ((c.tc : Thread nD τ).loc main_arg1)) (m ((c.tc : Thread nD τ).loc main_arg2))
      ∧ r.2.mem ((c.tc : Thread nD τ).loc main_v25) = res2 (m ((c.tc : Thread nD τ).loc main_arg0)) (m ((c.tc : Thread nD τ).loc main_arg1)) (m ((c.tc : Thread nD τ).loc main_arg2))
      ∧ r.2.mem ((c.tc : Thread nD τ).loc main_v23) = res3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold res0 res1 res2 res3 proj normed
  exact Cert.ProjRefIdeal.Value.run m ρ

end

set_option maxHeartbeats 4000000 in
/-- Over the extended reals the kernel's four results are the reference's: the columns of
`rmsnorm(x) * g @ w_in`, arranged as the layer's later calls take them. -/
theorem algebraic_Proj : Cert.algebraic_ProjIdeal_ProjRefIdeal := by
  pair_intro
  · run_from Cert.ProjIdeal.Gen.run_main m g
  · refine (θ_run _ _ _).mono ?_ (run_ProjRef m' g')
    intro r h c
    obtain ⟨e0, e1, e2⟩ := hagree c
    obtain ⟨r0, r1, r2, r3, r4, r5, r6⟩ := h c
    exact ⟨r0.trans ((congr3 res0 e0 e1 e2).trans (Cert.ProjIdeal.RefValue.final0 m c).symm),
      r1.trans ((congr3 res1 e0 e1 e2).trans (Cert.ProjIdeal.RefValue.final1 m c).symm),
      r2.trans ((congr3 res2 e0 e1 e2).trans (Cert.ProjIdeal.RefValue.final2 m c).symm),
      r3.trans ((congr3 res3 e0 e1 e2).trans (Cert.ProjIdeal.RefValue.final3 m c).symm), r4, r5, r6⟩

end Cert.Proof

end
-- ==== Proof.FfnValue.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise
public import Idealize.ShloMosaic.Lib.Claim

/-! The output projection with the dense feed-forward block. The kernel keeps three things of a row block between the
two points that treat it: the projected residual, its normalised rows, and the part of the down projection summed so
far. The file says what the first point leaves in them and what the second one writes, and that this is the
reference's array. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.FfnRefIdeal.Spec

open Cert.FfnRefIdeal Cert.FfnRefIdeal.Gen

/-- The reference's residual stream after the output projection: `X + [A, B, C] @ Wo`. -/
def resid (X : FVec Ideal S32768x1024 .f32) (A : FVec Ideal S32768x256 .bf16) (B C : FVec Ideal S32768x384 .bf16)
    (Wo : FVec Ideal S1024x1024 .f32) : FVec Ideal S32768x1024 .f32 :=
  addf X (Host.dotGeneral dot_S32768x1024_S1024x1024_S32768x1024_1_0_0_1_n_n none
    (concatenate S32768x1024 1 [⟨S32768x256, extf .f32 A bitsLt_bf16_f32⟩, ⟨S32768x384, extf .f32 B bitsLt_bf16_f32⟩,
      ⟨S32768x384, extf .f32 C bitsLt_bf16_f32⟩] concatenates_S32768x256_S32768x384_S32768x384_S32768x1024_d1) Wo)

/-- The reference's normalised rows of `R`, scaled by `g`. -/
def normed (R : FVec Ideal S32768x1024 .f32) (g : FVec Ideal S1024 .f32) : FVec Ideal S32768x1024 .f32 :=
  mulf (mulf R (broadcastInDim S32768x1024 ![0, 1] bcast_S32768x1_S32768x1024_0_1 (Host.rsqrt (addf (Host.divf
    (broadcastInDim S32768x1 ![0] bcast_S32768_S32768x1_0
      (Host.reduceAdd (mulf R R) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's gated linear unit on normalised rows `H`: `(silu (H @ G) * (H @ U)) @ D`. -/
def swiglu (H : FVec Ideal S32768x1024 .f32) (G U : FVec Ideal S1024x2816 .f32) (D : FVec Ideal S2816x1024 .f32) :
    FVec Ideal S32768x1024 .f32 :=
  Host.dotGeneral dot_S32768x2816_S2816x1024_S32768x1024_1_0_0_1_n_n none
    (mulf (mulf (Host.dotGeneral dot_S32768x1024_S1024x2816_S32768x2816_1_0_0_1_n_n none H G)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (Host.dotGeneral dot_S32768x1024_S1024x2816_S32768x2816_1_0_0_1_n_n none H G))))))
      (Host.dotGeneral dot_S32768x1024_S1024x2816_S32768x2816_1_0_0_1_n_n none H U)) D

/-- The reference's result from its residual stream and normalised rows. -/
def out (R H : FVec Ideal S32768x1024 .f32) (G U : FVec Ideal S1024x2816 .f32) (D : FVec Ideal S2816x1024 .f32) :
    FVec Ideal S32768x1024 .f32 :=
  addf R (swiglu H G U D)

end Cert.FfnRefIdeal.Spec

namespace Cert.FfnIdeal.RefValue

open Cert.FfnIdeal Cert.FfnIdeal.Gen Cert.FfnRefIdeal.Spec

variable (m : (ℓ : Loc nD τ sig) → Buf (Elt Ideal) ℓ)

/-- Which block of its array each window holds at point `t`: row block `t / 2` of the activations, the whole of the
output projection, half `t % 2` of the hidden channels. -/
theorem idx : ∀ t : Fin cfg0.N, win0_0.index t = ![t.val / 2, 0] ∧ win0_1.index t = ![t.val / 2, 0]
    ∧ win0_2.index t = ![t.val / 2, 0] ∧ win0_3.index t = ![t.val / 2, 0] ∧ win0_4.index t = ![0, 0]
    ∧ win0_5.index t = ![0, 0] ∧ win0_6.index t = ![0, 0] ∧ win0_7.index t = ![0, 0] ∧ win0_8.index t = ![0, t.val % 2]
    ∧ win0_9.index t = ![0, t.val % 2] ∧ win0_10.index t = ![t.val % 2, 0] ∧ win0_11.index t = ![t.val / 2, 0] :=
  (by decide +kernel : ∀ t : Fin grid0.N, _)

/-- The reference's residual stream over the kernel's arguments. -/
abbrev R (c : Dev nD) : FVec Ideal Cert.FfnRefIdeal.S32768x1024 .f32 :=
  resid (m ((c : Thread nD τ).loc main_arg0)) (m ((c : Thread nD τ).loc main_arg1)) (m ((c : Thread nD τ).loc main_arg2))
    (m ((c : Thread nD τ).loc main_arg3)) (m ((c : Thread nD τ).loc main_arg4))

/-- The reference's normalised rows over the kernel's arguments. -/
abbrev H (c : Dev nD) : FVec Ideal Cert.FfnRefIdeal.S32768x1024 .f32 := normed (R m c) (m ((c : Thread nD τ).loc main_arg5))

/-- The residual stream's block at point `t`, as the kernel computes it. -/
abbrev xblk (c : Dev nD) (t : Fin cfg0.N) : FVec Ideal S512x1024 .f32 :=
  k0_pay5 (iblk m c 1 t) (iblk m c 4 t) (iblk m c 2 t) (iblk m c 5 t) (iblk m c 3 t) (iblk m c 6 t) (iblk m c 0 t)

/-- The normalised rows' block at point `t`, as the kernel computes it. -/
abbrev hblk (c : Dev nD) (t : Fin cfg0.N) : FVec Ideal S512x1024 .bf16 :=
  k0_pay7 (iblk m c 1 t) (iblk m c 4 t) (iblk m c 2 t) (iblk m c 5 t) (iblk m c 3 t) (iblk m c 6 t) (iblk m c 0 t) (iblk m c 7 t)

/-- The kernel's residual block is the reference's rows: the three partial products are one contraction over the
channels of the three branches side by side. -/
theorem xblk_at (c : Dev nD) (t : Fin cfg0.N) (y : S512x1024.Idx) (i : Cert.FfnRefIdeal.S32768x1024.Idx)
    (h0 : (i 0 : ℕ) = t.val / 2 * 512 + y 0) (h1 : (i 1 : ℕ) = y 1) : xblk m c t y = R m c i := by
  pointwise [xblk, R, k0_pay5, resid]
  rw [Fin.sum_univ_two_halves 256 768 rfl, Fin.sum_univ_two_halves 384 384 rfl (fun k : Fin 768 => _)]
  pointwise
  simp only [← add_assoc]
  blk_point [iblk, V, idx t]

/-- The kernel's normalised block is the reference's normalised rows. -/
theorem hblk_at (c : Dev nD) (t : Fin cfg0.N) (y : S512x1024.Idx) (i : Cert.FfnRefIdeal.S32768x1024.Idx)
    (h0 : (i 0 : ℕ) = t.val / 2 * 512 + y 0) (h1 : (i 1 : ℕ) = y 1) : hblk m c t y = H m c i := by
  have e : ∀ k : Fin 1024, xblk m c t (ix2 (y 0) k) = R m c (ix2 (i 0) k) := fun k => xblk_at m c t _ _ h0 rfl
  have e' : xblk m c t y = R m c i := xblk_at m c t _ _ h0 h1
  pointwise [hblk, H, k0_pay7, normed]
  simp only [xblk] at e e'
  simp only [e, e']
  blk_point [iblk, V, idx t]

/-- What the first point of a row block leaves in the three carried buffers. -/
theorem carried (c : Dev nD) (t : Fin cfg0.N) (h0 : t.val % 2 = 0) :
    (outsAt0 m c t.val t.isLt).2 = (k0_pay6 (iblk m c 1 t) (iblk m c 4 t) (iblk m c 2 t) (iblk m c 5 t) (iblk m c 3 t)
      (iblk m c 6 t) (iblk m c 0 t), k0_pay1 (hblk m c t),
      k0_pay3 (k0_pay1 (hblk m c t)) (iblk m c 8 t) (iblk m c 9 t) (k0_pay2 (F := Ideal)) (iblk m c 10 t)) := by
  rw [outsAt0_A m c t h0 (by omega)]
  frame_out

/-- What the second point of a row block writes. -/
theorem written (c : Dev nD) (t : Fin cfg0.N) (h1 : t.val % 2 = 1) (t' : Fin cfg0.N) (ht : t'.val = t.val - 1) :
    (outsAt0 m c t.val t.isLt).1 = k0_pay4 (k0_pay6 (iblk m c 1 t') (iblk m c 4 t') (iblk m c 2 t') (iblk m c 5 t')
        (iblk m c 3 t') (iblk m c 6 t') (iblk m c 0 t'))
      (k0_pay3 (k0_pay1 (hblk m c t')) (iblk m c 8 t) (iblk m c 9 t)
       (k0_pay3 (k0_pay1 (hblk m c t')) (iblk m c 8 t') (iblk m c 9 t') (k0_pay2 (F := Ideal)) (iblk m c 10 t')) (iblk m c 10 t)) := by
  obtain ⟨n, hn⟩ := t'
  subst ht
  have e := carried m c ⟨t.val - 1, hn⟩ (by dsimp only; omega)
  rw [outsAt0_B m c t (by omega) h1]
  frame_out
  simp only [read_unread_whole]
  rw [e]

/-- The second point of a row block writes the reference's rows: the two halves of the hidden channels are one
contraction over all of them. -/
theorem point (c : Dev nD) (t t' : Fin cfg0.N) (h1 : t.val % 2 = 1) (ht : t'.val = t.val - 1) (y : S512x1024.Idx)
    (i : Cert.FfnRefIdeal.S32768x1024.Idx) (h0 : (i 0 : ℕ) = t.val / 2 * 512 + y 0) (hi1 : (i 1 : ℕ) = y 1) :
    k0_pay4 (k0_pay6 (iblk m c 1 t') (iblk m c 4 t') (iblk m c 2 t') (iblk m c 5 t')
        (iblk m c 3 t') (iblk m c 6 t') (iblk m c 0 t'))
      (k0_pay3 (k0_pay1 (hblk m c t')) (iblk m c 8 t) (iblk m c 9 t)
       (k0_pay3 (k0_pay1 (hblk m c t')) (iblk m c 8 t') (iblk m c 9 t') (k0_pay2 (F := Ideal)) (iblk m c 10 t')) (iblk m c 10 t)) y
    = out (R m c) (H m c) (m ((c : Thread nD τ).loc main_arg6)) (m ((c : Thread nD τ).loc main_arg7))
        (m ((c : Thread nD τ).loc main_arg8)) i := by
  have e : xblk m c t' y = R m c i := xblk_at m c t' _ _ (by omega) hi1
  have e' : ∀ k : Fin 1024, hblk m c t' (ix2 (y 0) k) = H m c (ix2 (i 0) k) :=
    fun k => hblk_at m c t' _ _ (by rw [show t'.val / 2 = t.val / 2 by omega]; exact h0) rfl
  generalize hH : H m c = Hr at e' ⊢
  generalize hR : R m c = Rr at e ⊢
  pointwise [k0_pay4, k0_pay6, k0_pay3, k0_pay1, k0_pay2, out, swiglu]
  simp only [xblk] at e
  simp only [hblk] at e'
  simp only [e, e', zero_sub]
  rw [Fin.sum_univ_two_halves 1408 1408 rfl]
  blk_point [iblk, V, idx t, idx t']

/-- The kernel's result array is the reference's. -/
theorem final (c : Dev nD) : (dats m 0 c).arrAt 11 (cfgs 0).N
    = out (R m c) (H m c) (m ((c : Thread nD τ).loc main_arg6)) (m ((c : Thread nD τ).loc main_arg7))
        (m ((c : Thread nD τ).loc main_arg8)) := by
  refine (dats m 0 c).arrAt_eq_of_covers 11 _ (by decide +kernel) fun t hf y => ?_
  have h1 : t.val % 2 = 1 := (flush0_11 t).mp hf
  blk_simp
  rw [after0_11, written m c t h1 ⟨t.val - 1, Nat.lt_of_le_of_lt (Nat.sub_le _ _) t.isLt⟩ rfl]
  exact point m c t _ h1 rfl y _ (by blk_simp [idx t]) (by blk_simp [idx t])

end Cert.FfnIdeal.RefValue
-- ==== Proof.FfnClaim.lean ====
module

public import proofs.«01_k».proof.Defs
public import proofs.«01_k».proof.Proof.FfnValue

/-! The output projection and the dense channel mixer: the claim. -/

@[expose] public section

set_option maxRecDepth 16384

noncomputable section

open Idealize.ShloMosaic Idealize.ShloMosaic.TcCoe Idealize.SL.Sem Cert.FfnRefIdeal.Spec

namespace Cert.Proof

section
open Cert.FfnRefIdeal Cert.FfnRefIdeal.Gen

set_option maxHeartbeats 1000000 in
/-- The reference's result is `out` of its residual stream and normalised rows. -/
theorem res_Ffn (m : (ℓ : Loc nD τ sig) → Buf (Elt Ideal) ℓ) (c : Dev nD) : Cert.FfnRefIdeal.Value.res_main_v24 m c
    = out (resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (normed (resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))
      (m ((c.tc : Thread nD τ).loc main_arg6)) (m ((c.tc : Thread nD τ).loc main_arg7)) (m ((c.tc : Thread nD τ).loc main_arg8)) := by
  unfold Cert.FfnRefIdeal.Value.res_main_v24 out swiglu normed resid
  rfl

end

/-- Over the extended reals the kernel's result is the reference's: with `r = x + [ya yb yc] @ w_out` and
`h = rmsnorm(r) * g`, it is `r + (silu(h @ w_gate) * (h @ w_up)) @ w_down`. -/
theorem algebraic_Ffn : Cert.algebraic_FfnIdeal_FfnRefIdeal := by
  pair_intro
  · run_from Cert.FfnIdeal.Gen.run_main m g
  · run_from Cert.FfnRefIdeal.Value.run m' g'
    refine Eq.trans ?_ (Cert.FfnIdeal.RefValue.final m c).symm
    obtain ⟨h0, h1, h2, h3, h4, h5, h6, h7, h8⟩ := hagree c
    rw [res_Ffn, h0, h1, h2, h3, h4, h5, h6, h7, h8]

end Cert.Proof

end
-- ==== Proof.MoeValue.lean ====
module

public import proofs.«01_k».proof.Proof.Gen.MoeIdeal.Value
public import proofs.«01_k».proof.Proof.Gen.MoeRefIdeal.Run
public import proofs.«01_k».proof.Proof.Gen.Pre_gates_weigh
public import Idealize.ShloMosaic.Lib.Pipeline.ValueKit
public import Idealize.ShloMosaic.Lib.Pipeline.ReadBack
public import Idealize.ShloMosaic.Lib.Pointwise
public import Idealize.ShloMosaic.Lib.Claim

/-! The routed experts. A row block is treated by sixteen points, one for each expert and half of the hidden channels;
each adds its gated partial product to a carried buffer, and the last one normalises the residual with the buffer added.
The file says what every point adds, that the sixteen together are the reference's gated sum over the experts where the
gates are finite and not negative, and that the array written is the reference's. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.MoeRefIdeal.Spec

open Cert.MoeRefIdeal Cert.MoeRefIdeal.Gen

/-- The rows times every expert's input matrix: at expert `e`, row `n`, channel `f` it is `Σ d, H n d * G e d f`. -/
def lin (H : FVec Ideal S32768x1024 .bf16) (G : FVec Ideal S8x1024x2816 .f32) : FVec Ideal S8x32768x2816 .f32 :=
  transpose S8x32768x2816 [0, 2, 1] (Host.dotGeneral dot_S8x1024x2816_S32768x1024_S8x2816x32768_1_1_02_0_n_n none G
    (extf .f32 H bitsLt_bf16_f32)) transposes_S8x2816x32768_S8x32768x2816_0_2_1

/-- The gated linear unit of every expert: `silu (lin H G) * lin H U`. -/
def act (H : FVec Ideal S32768x1024 .bf16) (G U : FVec Ideal S8x1024x2816 .f32) : FVec Ideal S8x32768x2816 .f32 :=
  mulf (mulf (lin H G) (Host.divf (broadcastInDim S8x32768x2816 ![] bcast_S_S8x32768x2816 (constant S_ .f32 0x3F800000#32))
    (addf (broadcastInDim S8x32768x2816 ![] bcast_S_S8x32768x2816 (constant S_ .f32 0x3F800000#32))
      (Host.exp (Host.negf (lin H G)))))) (lin H U)

/-- The experts' outputs weighed by the gates and summed over the experts. -/
def mix (P : FVec Ideal S32768x128 .f32) (A : FVec Ideal S8x32768x2816 .f32) (D : FVec Ideal S8x2816x1024 .f32) :
    FVec Ideal S32768x1024 .f32 :=
  Host.reduceAdd (mulf (broadcastInDim S8x32768x1024 ![0, 1, 2] bcast_S8x32768x1_S8x32768x1024_0_1_2
    (broadcastInDim S8x32768x1 ![0, 1] bcast_S8x32768_S8x32768x1_0_1 (transpose S8x32768 [1, 0]
      (extractStridedSlice S32768x8 ![0, 0] P slices_S32768x128_S32768x8_0_0) transposes_S32768x8_S8x32768_1_0)))
    (Host.dotGeneral dot_S8x32768x2816_S8x2816x1024_S8x32768x1024_2_1_1_2_0_0 none A D))
    (constant S_ .f32 0x00000000#32) reducesTo_S8x32768x1024_S32768x1024_d0 h_S_

/-- The reference's normalised rows of `R`, scaled by `g`. -/
def normed (R : FVec Ideal S32768x1024 .f32) (g : FVec Ideal S1024 .f32) : FVec Ideal S32768x1024 .f32 :=
  mulf (mulf R (broadcastInDim S32768x1024 ![0, 1] bcast_S32768x1_S32768x1024_0_1 (Host.rsqrt (addf (Host.divf
    (broadcastInDim S32768x1 ![0] bcast_S32768_S32768x1_0
      (Host.reduceAdd (mulf R R) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- One entry of the rows times an expert's input matrix. -/
theorem lin_at (H : FVec Ideal S32768x1024 .bf16) (G : FVec Ideal S8x1024x2816 .f32) (i : S8x32768x2816.Idx) :
    lin H G i = ∑ d : Fin 1024, (H (ix2 (i 1) d) : EReal) * G (ix3 (i 0) d (i 2)) := by
  pointwise [lin]
  exact Fin.sum_fin_congr fun d => EReal.mul_comm _ _

/-- One entry of the gated sum: over the experts, gate times the expert's down projection. -/
theorem mix_at (P : FVec Ideal S32768x128 .f32) (A : FVec Ideal S8x32768x2816 .f32) (D : FVec Ideal S8x2816x1024 .f32)
    (i : S32768x1024.Idx) : mix P A D i = ∑ e : Fin 8, P (ix2 (i 0) ⟨e.val, by omega⟩)
      * ∑ k : Fin 2816, A (ix3 e (i 0) k) * D (ix3 e k (i 1)) := by
  pointwise [mix]

end Cert.MoeRefIdeal.Spec

namespace Cert.MoeIdeal.RefValue

open Cert.MoeIdeal Cert.MoeIdeal.Gen Cert.MoeRefIdeal.Spec

variable (m : (ℓ : Loc nD τ sig) → Buf (Elt Ideal) ℓ)

/-- Which block of its array each window holds at point `t`: row block `t / 16`, expert `t % 16 / 2`, half `t % 2` of the
expert's hidden channels. -/
theorem idx : ∀ t : Fin cfg0.N, win0_0.index t = ![t.val / 16, 0] ∧ win0_1.index t = ![t.val / 16, 0]
    ∧ win0_2.index t = ![t.val / 16, 0] ∧ win0_3.index t = ![t.val % 16 / 2, 0, t.val % 2]
    ∧ win0_4.index t = ![t.val % 16 / 2, 0, t.val % 2] ∧ win0_5.index t = ![t.val % 16 / 2, t.val % 2, 0]
    ∧ win0_6.index t = ![0, 0] ∧ win0_7.index t = ![t.val / 16, 0] :=
  (by decide +kernel : ∀ t : Fin grid0.N, _)

/-- The expert a point treats. -/
theorem expert : ∀ t : Fin cfg0.N, (grid0.coords t 1).val = t.val % 16 / 2 := (by decide +kernel : ∀ t : Fin grid0.N, _)

/-- The reference's hidden channels over the kernel's arguments. -/
abbrev A (c : Dev nD) : FVec Ideal Cert.MoeRefIdeal.S8x32768x2816 .f32 :=
  act (m ((c : Thread nD τ).loc main_arg1)) (m ((c : Thread nD τ).loc main_arg3)) (m ((c : Thread nD τ).loc main_arg4))

/-- A sum of values kept in one lane and replaced by zero in the others is that lane's value. -/
theorem pick (v : Fin 128 → EReal) (a : ℕ) (e : Fin 128) (he : e.val = a) :
    ∑ x : Fin 128, Scalar.select (IntOp.cmpi CmpIPredicate.eq (BitVec.ofNat 32 x.val) (BitVec.ofNat 32 a)) (v x) (0 : EReal) = v e := by
  subst he
  have h : ∀ x : Fin 128, Scalar.select (IntOp.cmpi CmpIPredicate.eq (BitVec.ofNat 32 x.val) (BitVec.ofNat 32 e.val)) (v x) (0 : EReal)
      = if x = e then v x else 0 := fun x => by
    unfold Scalar.select
    refine if_congr ?_ rfl rfl
    rw [show (1 : BitVec 1) = 1#1 from rfl, WordCmp.cmpi_eq_ofNat_eq_one_iff (by omega) (by omega), Fin.ext_iff]
  rw [Finset.sum_congr rfl fun x _ => h x, Finset.sum_ite_eq' Finset.univ e v, if_pos (Finset.mem_univ e)]

/-- The gates, an argument of the kernel. -/
abbrev P (c : Dev nD) : FVec Ideal Cert.MoeRefIdeal.S32768x128 .f32 := m ((c : Thread nD τ).loc main_arg2)

/-- The experts' output matrices, an argument of the kernel. -/
abbrev D (c : Dev nD) : FVec Ideal Cert.MoeRefIdeal.S8x2816x1024 .f32 := m ((c : Thread nD τ).loc main_arg5)

/-- The gates are weights: finite and not negative. -/
def Weigh (c : Dev nD) : Prop := ∀ (n : Fin 32768) (e : Fin 128), e.val < 8 →
  (0 : EReal) ≤ P m c (ix2 n e) ∧ P m c (ix2 n e) ≠ (⊤ : EReal)

/-- The gate the kernel picks out of a row: the row's entry in the expert's lane, the other lanes replaced by zeros. -/
theorem gate_at (c : Dev nD) (t : Fin cfg0.N) (y : S512x1.Idx) (n : Fin 32768) (e : Fin 128)
    (hn : (n : ℕ) = t.val / 16 * 512 + y 0) (he : (e : ℕ) = t.val % 16 / 2) :
    k0_pay4 (F := Ideal) (grid0.coords t) (iblk m c 2 t) y = P m c (ix2 n e) := by
  pointwise [k0_pay4]
  refine (pick (fun x => iblk m c 2 t (ix2 (y 0) x)) _ e (he.trans (expert t).symm)).trans ?_
  blk_point [iblk, V, idx t]

/-- The hidden channels the kernel computes at a point are the reference's, of the point's expert and half. -/
theorem hid_at (c : Dev nD) (t : Fin cfg0.N) (y : S512x1408.Idx) (i : Cert.MoeRefIdeal.S8x32768x2816.Idx)
    (h0 : (i 0 : ℕ) = t.val % 16 / 2) (h1 : (i 1 : ℕ) = t.val / 16 * 512 + y 0) (h2 : (i 2 : ℕ) = t.val % 2 * 1408 + y 1) :
    k0_pay5 (F := Ideal) (iblk m c 1 t) (iblk m c 3 t) (iblk m c 4 t) y = A m c i := by
  pointwise [k0_pay5, A, act]
  simp only [lin_at, zero_sub]
  blk_point [iblk, V, idx t]

/-- What a point adds to the carried buffer. -/
def term (c : Dev nD) (t : Fin cfg0.N) : FVec Ideal S512x1024 .f32 := fun y =>
  k0_pay4 (F := Ideal) (grid0.coords t) (iblk m c 2 t) (ix2 (y 0) 0)
    * ∑ k : Fin 1408, k0_pay5 (F := Ideal) (iblk m c 1 t) (iblk m c 3 t) (iblk m c 4 t) (ix2 (y 0) k) * iblk m c 5 t (ix3 0 k (y 1))

/-- The carried buffer after a point, over its contents before it: the point's term added. -/
theorem pay1_at (c : Dev nD) (t : Fin cfg0.N) (a : FVec Ideal S512x1024 .f32) (y : S512x1024.Idx) :
    k0_pay1 (k0_pay4 (F := Ideal) (grid0.coords t) (iblk m c 2 t)) a
      (k0_pay5 (F := Ideal) (iblk m c 1 t) (iblk m c 3 t) (iblk m c 4 t)) (iblk m c 5 t) y = a y + term m c t y := by
  pointwise [k0_pay1, term]

/-- The first point of a row block leaves its term. -/
theorem first (c : Dev nD) (t : Fin cfg0.N) (h0 : t.val % 16 = 0) (y : S512x1024.Idx) :
    (outsAt0 m c t.val t.isLt).2 y = (0 : EReal) + term m c t y := by
  rw [outsAt0_A m c t h0 (by omega)]
  frame_out
  refine (pay1_at m c t _ y).trans ?_
  pointwise [k0_pay3]

/-- Every later point of a row block adds its term. -/
theorem step (c : Dev nD) (t : Fin cfg0.N) (h0 : ¬t.val % 16 = 0) (y : S512x1024.Idx) :
    (outsAt0 m c t.val t.isLt).2 y
      = (outsAt0 m c (t.val - 1) (Nat.lt_of_le_of_lt (Nat.sub_le _ _) t.isLt)).2 y + term m c t y := by
  by_cases h1 : t.val % 16 = 15
  · rw [outsAt0_C m c t h0 h1]
    frame_out
    simp only [read_unread_whole]
    exact pay1_at m c t _ y
  · rw [outsAt0_B m c t h0 h1]
    frame_out
    simp only [read_unread_whole]
    exact pay1_at m c t _ y

/-- The output matrix's block at a point is the reference's, of the point's expert and half. -/
theorem down_at (c : Dev nD) (t : Fin cfg0.N) (y : S1x1408x1024.Idx) (i : Cert.MoeRefIdeal.S8x2816x1024.Idx)
    (h0 : (i 0 : ℕ) = t.val % 16 / 2) (h1 : (i 1 : ℕ) = t.val % 2 * 1408 + y 1) (h2 : (i 2 : ℕ) = y 2) :
    iblk m c 5 t y = D m c i := by
  have h : ((cfg0.win 5).blk t).view.emb y = i := by blk_ext [idx t]
  show V m c main_v2 (((cfg0.win 5).blk t).view.emb y) = _
  rw [h]
  entry_read
  pointwise

/-- A point's term over the arguments: gate times the half of the expert's down projection. -/
theorem term_at (c : Dev nD) (t : Fin cfg0.N) (y : S512x1024.Idx) (n : Fin 32768) (j : Fin 1024) (e : Fin 8) (q : Fin 1408 → Fin 2816)
    (hn : (n : ℕ) = t.val / 16 * 512 + y 0) (hj : (j : ℕ) = y 1) (he : (e : ℕ) = t.val % 16 / 2)
    (hq : ∀ k, (q k : ℕ) = t.val % 2 * 1408 + k) :
    term m c t y = P m c (ix2 n ⟨e.val, by omega⟩) * ∑ k : Fin 1408, A m c (ix3 e n (q k)) * D m c (ix3 e (q k) j) := by
  have h0 : k0_pay4 (F := Ideal) (grid0.coords t) (iblk m c 2 t) (ix2 (y 0) 0) = P m c (ix2 n ⟨e.val, by omega⟩) :=
    gate_at m c t _ n _ hn he
  have h1 : ∀ k : Fin 1408, k0_pay5 (F := Ideal) (iblk m c 1 t) (iblk m c 3 t) (iblk m c 4 t) (ix2 (y 0) k) = A m c (ix3 e n (q k)) :=
    fun k => hid_at m c t _ _ he hn (hq k)
  have h2 : ∀ k : Fin 1408, iblk m c 5 t (ix3 0 k (y 1)) = D m c (ix3 e (q k) j) := fun k => down_at m c t _ _ he (hq k) hj
  generalize A m c = a at h1 ⊢
  generalize D m c = d at h2 ⊢
  generalize P m c = g at h0 ⊢
  unfold term
  simp only [h0, h1, h2]

/-- After the last point of a row block the carried buffer holds the reference's gated sum, the gates being finite and
not negative. -/
theorem total (c : Dev nD) (hg : Weigh m c)
    (t : Fin cfg0.N) (h1 : t.val % 16 = 15) (y : S512x1024.Idx)
    (i : Cert.MoeRefIdeal.S32768x1024.Idx) (hi0 : (i 0 : ℕ) = t.val / 16 * 512 + y 0) (hi1 : (i 1 : ℕ) = y 1) :
    (outsAt0 m c t.val t.isLt).2 y
      = mix (P m c) (A m c) (D m c) i := by
  rw [Pipeline.eq_sum_fin_of_reset_step_apply_of_flush (fun n h => (outsAt0 m c n h).2) 16 (fun _ => (0 : EReal))
    (fun t y => term m c t y) (first m c) (step m c) t h1 y, mix_at]
  show (0 : EReal) + _ = _
  rw [zero_add, Fin.sum_univ_tiles 8 2 rfl]
  refine Fin.sum_fin_congr fun e => ?_
  rw [Fin.sum_univ_two, Fin.sum_univ_two_halves 1408 1408 rfl (fun k : Fin 2816 => _)]
  obtain ⟨g0, g1⟩ := hg (i 0) ⟨e.val, by omega⟩ e.isLt
  rw [EReal.left_distrib_of_nonneg_of_ne_top g0 g1]
  refine congrArg₂ (· + ·) ?_ ?_
  · refine term_at m c _ y (i 0) (i 1) e (fun k => ⟨k.val, by omega⟩) ?_ hi1 ?_ fun k => ?_
    all_goals dsimp only; omega
  · refine term_at m c _ y (i 0) (i 1) e (fun k => ⟨1408 + k.val, by omega⟩) ?_ hi1 ?_ fun k => ?_
    all_goals dsimp only; omega

/-- What the last point of a row block writes: the residual with the carried buffer added, normalised. -/
theorem written (c : Dev nD) (t : Fin cfg0.N) (h1 : t.val % 16 = 15) :
    (outsAt0 m c t.val t.isLt).1 = k0_pay2 (iblk m c 0 t) (outsAt0 m c t.val t.isLt).2 (iblk m c 6 t) := by
  rw [outsAt0_C m c t (by omega) h1]
  frame_out

/-- The normalised sum of the residual's block and a carried buffer that holds rows of `M` is the reference's rows. -/
theorem point (c : Dev nD) (t : Fin cfg0.N) (S : FVec Ideal S512x1024 .f32) (M : FVec Ideal Cert.MoeRefIdeal.S32768x1024 .f32)
    (e : ∀ (y : S512x1024.Idx) (i : Cert.MoeRefIdeal.S32768x1024.Idx), (i 0 : ℕ) = t.val / 16 * 512 + y 0 → (i 1 : ℕ) = y 1 → S y = M i)
    (y : S512x1024.Idx) (i : Cert.MoeRefIdeal.S32768x1024.Idx) (h0 : (i 0 : ℕ) = t.val / 16 * 512 + y 0) (h1 : (i 1 : ℕ) = y 1) :
    k0_pay2 (iblk m c 0 t) S (iblk m c 6 t) y
      = normed (addf (m ((c : Thread nD τ).loc main_arg0)) M) (m ((c : Thread nD τ).loc main_arg6)) i := by
  have e0 : S y = M i := e y i h0 h1
  have e1 : ∀ k : Fin 1024, S (ix2 (y 0) k) = M (ix2 (i 0) k) := fun k => e _ _ h0 rfl
  pointwise [k0_pay2, normed]
  simp only [e0, e1]
  blk_point [iblk, V, idx t]

/-- The kernel's result array is the reference's, the gates being finite and not negative. -/
theorem final (c : Dev nD) (hg : Weigh m c) :
    (dats m 0 c).arrAt 7 (cfgs 0).N
    = normed (addf (m ((c : Thread nD τ).loc main_arg0))
        (mix (P m c) (A m c) (D m c)))
        (m ((c : Thread nD τ).loc main_arg6)) := by
  refine (dats m 0 c).arrAt_eq_of_covers 7 _ (by decide +kernel) fun t hf y => ?_
  have h1 : t.val % 16 = 15 := (flush0_7 t).mp hf
  have e := total m c hg t h1
  blk_simp
  rw [after0_7, written m c t h1]
  generalize (outsAt0 m c t.val t.isLt).2 = S at e ⊢
  generalize mix (P m c) (A m c) (D m c) = M at e ⊢
  refine point m c t S M (fun y i h0 h1 => e y i h0 h1) y _ ?_ ?_
  all_goals blk_simp [idx t]

end Cert.MoeIdeal.RefValue
-- ==== Proof.MoeClaim.lean ====
module

public import proofs.«01_k».proof.Defs
public import proofs.«01_k».proof.Proof.MoeValue

/-! The routed experts: the claim. -/

@[expose] public section

set_option maxRecDepth 16384

noncomputable section

open Idealize.ShloMosaic Idealize.ShloMosaic.TcCoe Idealize.SL.Sem Cert.MoeRefIdeal.Spec

namespace Cert.Proof

section
open Cert.MoeRefIdeal Cert.MoeRefIdeal.Gen

set_option maxHeartbeats 1000000 in
/-- The reference's result is the normalised sum of the residual and the gated sum over the experts. -/
theorem res_Moe (m : (ℓ : Loc nD τ sig) → Buf (Elt Ideal) ℓ) (c : Dev nD) : Cert.MoeRefIdeal.Value.res_main_v27 m c
    = normed (addf (m ((c.tc : Thread nD τ).loc main_arg0)) (mix (m ((c.tc : Thread nD τ).loc main_arg2))
        (act (m ((c.tc : Thread nD τ).loc main_arg1)) (m ((c.tc : Thread nD τ).loc main_arg3)) (m ((c.tc : Thread nD τ).loc main_arg4)))
        (m ((c.tc : Thread nD τ).loc main_arg5)))) (m ((c.tc : Thread nD τ).loc main_arg6)) := by
  unfold Cert.MoeRefIdeal.Value.res_main_v27 normed mix act lin
  rfl

end

/-- What the precondition says of one gate: it is finite and not negative. -/
theorem gates_of_pre (m : (ℓ : Loc Cert.MoeIdeal.nD Cert.MoeIdeal.τ Cert.MoeIdeal.sig) → Buf (Elt Ideal) ℓ)
    (h : Cert.Pre_MoeIdeal_gates_weigh m) (c : Dev Cert.MoeIdeal.nD) : Cert.MoeIdeal.RefValue.Weigh m c := by
  intro n e he
  have q := congrFun (h c) (ix2 n ⟨e.val, he⟩)
  pointwise [Cert.Pre_gates_weigh.fn] at q
  obtain ⟨q0, q1⟩ := IntOp.andi_eq_one.1 q
  exact ⟨(WordCmp.ofBool_decide_eq_one_iff _).1 q0, LT.lt.ne_top ((WordCmp.ofBool_decide_eq_one_iff _).1 q1)⟩

/-- Over the extended reals, where the gates are finite and not negative, the kernel's result is the reference's:
`rmsnorm(x + Σ e, gate e * ((silu(h @ w_gate e) * (h @ w_up e)) @ w_down e)) * g`. -/
theorem algebraic_Moe : Cert.algebraic_MoeIdeal_MoeRefIdeal_pre_gates_weigh := by
  pair_intro
  · run_from Cert.MoeIdeal.Gen.run_main m g
  · run_from Cert.MoeRefIdeal.Value.run m' g'
    refine Eq.trans ?_ (Cert.MoeIdeal.RefValue.final m c (gates_of_pre m hpre c)).symm
    obtain ⟨h0, h1, h2, h3, h4, h5, h6⟩ := hagree c
    rw [res_Moe, h0, h1, h2, h3, h4, h5, h6]

end Cert.Proof

end
-- ==== Proof.ConvSpec.lean ====
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.Claim

/-! The streaming causal convolution: the reference's arrays, what its 31-tap sum is at an index, and how the kernel's
layer norm and activation of a strip of 32 rows reads. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvRefIdeal.Spec

open Cert.ConvRefIdeal Cert.ConvRefIdeal.Gen

/-- The convolution's input rows: 30 rows of history, then the gated rows `val * sigmoid(gate)`. -/
def rows (A : FVec Ideal S2x16384x512 .f32) (H : FVec Ideal S2x30x256 .f32) : FVec Ideal S2x16414x256 .f32 :=
  concatenate S2x16414x256 1 [⟨S2x30x256, H⟩, ⟨S2x16384x256, mulf
    (extractStridedSlice S2x16384x256 ![0, 0, 0] A slices_S2x16384x512_S2x16384x256_0_0_0)
    (Host.divf (broadcastInDim S2x16384x256 ![] bcast_S_S2x16384x256 (constant S_ .f32 0x3F800000#32))
      (addf (broadcastInDim S2x16384x256 ![] bcast_S_S2x16384x256 (constant S_ .f32 0x3F800000#32)) (Host.exp (Host.negf
        (extractStridedSlice S2x16384x256 ![0, 0, 256] A slices_S2x16384x512_S2x16384x256_0_0_256)))))⟩]
    concatenates_S2x30x256_S2x16384x256_S2x16414x256_d1

/-- The depthwise convolution: at time `t` the sum over the 31 taps `k` of `w[k] * rows[t + k]`, plus the bias. -/
def conv (X : FVec Ideal S2x16414x256 .f32) (w : FVec Ideal S31x256 .f32) (b : FVec Ideal S256 .f32) :
    FVec Ideal S2x16384x256 .f32 := fun i =>
  (∑ k : Fin 31, (w (ix2 k ⟨i 2, (i 2).isLt⟩) : EReal)
      * X (ix3 ⟨i 0, (i 0).isLt⟩ ⟨(i 1 : ℕ) + k, by have h : (i 1 : ℕ) < 16384 := (i 1).isLt; omega⟩ ⟨i 2, (i 2).isLt⟩))
    + b (ix1 ⟨i 2, (i 2).isLt⟩)

/-- The mean of every row of `Y`. -/
def mean (Y : FVec Ideal S2x16384x256 .f32) : FVec Ideal S2x16384x1 .f32 :=
  Host.divf (broadcastInDim S2x16384x1 ![0, 1] bcast_S2x16384_S2x16384x1_0_1
      (Host.reduceAdd Y (constant S_ .f32 0x00000000#32) reducesTo_S2x16384x256_S2x16384_d2 h_S_))
    (broadcastInDim S2x16384x1 ![] bcast_S_S2x16384x1 (constant S_ .f32 0x43800000#32))

/-- `Y` less the mean of its row. -/
def centred (Y : FVec Ideal S2x16384x256 .f32) : FVec Ideal S2x16384x256 .f32 :=
  subf Y (broadcastInDim S2x16384x256 ![0, 1, 2] bcast_S2x16384x1_S2x16384x256_0_1_2 (mean Y))

/-- The layer norm of `Y` with gain `g` and offset `b`. -/
def normed (Y : FVec Ideal S2x16384x256 .f32) (g b : FVec Ideal S256 .f32) : FVec Ideal S2x16384x256 .f32 :=
  addf (mulf (mulf (centred Y) (broadcastInDim S2x16384x256 ![0, 1, 2] bcast_S2x16384x1_S2x16384x256_0_1_2
      (Host.rsqrt (addf (mean (mulf (centred Y) (centred Y)))
        (broadcastInDim S2x16384x1 ![] bcast_S_S2x16384x1 (constant S_ .f32 0x358637BD#32))))))
    (broadcastInDim S2x16384x256 ![0, 1, 2] bcast_S1x1x256_S2x16384x256_0_1_2 (broadcastInDim S1x1x256 ![2] bcast_S256_S1x1x256_2 g)))
    (broadcastInDim S2x16384x256 ![0, 1, 2] bcast_S1x1x256_S2x16384x256_0_1_2 (broadcastInDim S1x1x256 ![2] bcast_S256_S1x1x256_2 b))

/-- The first result: `silu` of the layer norm. -/
def out (Y : FVec Ideal S2x16384x256 .f32) (g b : FVec Ideal S256 .f32) : FVec Ideal S2x16384x256 .bf16 :=
  truncf .bf16 (mulf (normed Y g b) (Host.divf
    (broadcastInDim S2x16384x256 ![] bcast_S_S2x16384x256 (constant S_ .f32 0x3F800000#32))
    (addf (broadcastInDim S2x16384x256 ![] bcast_S_S2x16384x256 (constant S_ .f32 0x3F800000#32))
      (Host.exp (Host.negf (normed Y g b)))))) bitsLt_bf16_f32

/-- The second result, the state carried on: the last 32 of the convolution's input rows. -/
def tail (X : FVec Ideal S2x16414x256 .f32) : FVec Ideal S2x32x256 .f32 :=
  extractStridedSlice S2x32x256 ![0, 16382, 0] X slices_S2x16414x256_S2x32x256_0_16382_0

/-- A sum over 31 taps, written out in the order in which both programs add. -/
theorem sum_taps (w x : Fin 31 → EReal) : ∑ k : Fin 31, w k * x k
    = 0 + w 0 * x 0 + w 1 * x 1 + w 2 * x 2 + w 3 * x 3 + w 4 * x 4 + w 5 * x 5 + w 6 * x 6 + w 7 * x 7 + w 8 * x 8
      + w 9 * x 9 + w 10 * x 10 + w 11 * x 11 + w 12 * x 12 + w 13 * x 13 + w 14 * x 14 + w 15 * x 15 + w 16 * x 16
      + w 17 * x 17 + w 18 * x 18 + w 19 * x 19 + w 20 * x 20 + w 21 * x 21 + w 22 * x 22 + w 23 * x 23 + w 24 * x
      24 + w 25 * x 25 + w 26 * x 26 + w 27 * x 27 + w 28 * x 28 + w 29 * x 29 + w 30 * x 30 := by
  simp only [Fin.sum_univ_castSucc, Fin.sum_univ_zero]
  rfl

set_option maxHeartbeats 1000000 in
/-- The reference's own 31 slices, scaled and added, are the convolution. -/
theorem conv_ref (V : Valuation τ sig (Elt Ideal)) : Cert.ConvRefIdeal.Value.res_main_v230 V
    = conv (Cert.ConvRefIdeal.Value.res_main_v9 V) (V (Proc.devRef .tc main_arg2)) (V (Proc.devRef .tc main_arg3)) := by
  funext i
  unfold Cert.ConvRefIdeal.Value.res_main_v230 Cert.ConvRefIdeal.Value.res_main_v164 Cert.ConvRefIdeal.Value.res_main_v87
  generalize Cert.ConvRefIdeal.Value.res_main_v9 V = X
  generalize V (Proc.devRef .tc main_arg2) = w
  generalize V (Proc.devRef .tc main_arg3) = b
  pointwise
  unfold conv
  rw [sum_taps]
  simp only [zero_add]
  repeat' (refine congrArg₂ HAdd.hAdd ?_ ?_)
  all_goals first
    | exact congrArg₂ HMul.hMul rfl (congrArg X (congrArg (fun z => ix3 (i 0) z (i 2)) (Fin.ext (Nat.add_comm _ _))))
    | rfl

end Cert.ConvRefIdeal.Spec

namespace Cert.ConvIdeal.RefValue

open Cert.ConvIdeal Cert.ConvIdeal.Gen Cert.ConvRefIdeal.Spec

set_option maxHeartbeats 1000000 in
/-- The kernel's layer norm and `silu` of a strip of 32 rows is the reference's, where the strip's rows (with the bias
added) are rows of `Y`. -/
theorem strip_at (A : FVec Ideal S32x256 .f32) (b3 g4 b5 : Vec Ideal S1x256 .f32)
    (Y : FVec Ideal Cert.ConvRefIdeal.S2x16384x256 .f32) (g b : FVec Ideal Cert.ConvRefIdeal.S256 .f32)
    (x : S1x32x256.Idx) (i : Cert.ConvRefIdeal.S2x16384x256.Idx) (hi : (i 2 : ℕ) = x 2)
    (hY : ∀ k : Fin 256, (A (ix2 (x 1) k) : EReal) + b3 (ix2 0 k) = Y (ix3 (i 0) (i 1) k))
    (hg : ∀ k : Fin 256, g4 (ix2 0 k) = g (ix1 k)) (hb : ∀ k : Fin 256, b5 (ix2 0 k) = b (ix1 k)) :
    k0_pay48 (F := Ideal)
      (addf A (broadcastTo S32x256 (shapeCast S1x256 b3 shapeCasts_S1x256_S1x256) broadcasts_S1x256_S32x256))
      (shapeCast S32x1 (multiReduction .add [1] S32
        (addf A (broadcastTo S32x256 (shapeCast S1x256 b3 shapeCasts_S1x256_S1x256) broadcasts_S1x256_S32x256))
        0x00000000#32 reduces_S32x256_S32 (.inl rfl) rfl) shapeCasts_S32_S32x1)
      k0_pay47 g4 b5 x = out Y g b i := by
  pointwise [k0_pay48, k0_pay47, out, normed, centred, mean]
  have e : (x 2 : Fin 256) = i 2 := Fin.ext hi.symm
  have hx : (A (ix2 (x 1) (x 2)) : EReal) + b3 (ix2 0 (x 2)) = Y i :=
    (hY (x 2)).trans (congrArg Y (by blk_ext))
  have hg' : g4 (ix2 0 (x 2)) = g (ix1 (i 2)) := (hg (x 2)).trans (congrArg (fun z => g (ix1 z)) e)
  have hb' : b5 (ix2 0 (x 2)) = b (ix1 (i 2)) := (hb (x 2)).trans (congrArg (fun z => b (ix1 z)) e)
  simp only [hY, hx, hg', hb', zero_sub]

end Cert.ConvIdeal.RefValue

end
-- ==== Proof.ConvRows.lean ====
module

public import proofs.«01_k».proof.Proof.ConvSpec

/-! The streaming causal convolution: what the blocks hold that a grid point reads, and that the kernel's buffer of 288
rows holds the reference's rows, the tile's own 256 after the 32 before it. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvIdeal.RefValue

open Cert.ConvIdeal Cert.ConvIdeal.Gen Cert.ConvRefIdeal.Spec

variable (m : (ℓ : Loc nD τ sig) → Buf (Elt Ideal) ℓ)

/-- Which block of its array each window holds at point `t`: batch `t / 64`, row tile `t % 64`, parameters whole. -/
theorem idx : ∀ t : Fin cfg0.N, win0_0.index t = ![t.val / 64, t.val % 64, 0] ∧ win0_1.index t = ![t.val / 64, 0, 0]
    ∧ win0_2.index t = ![0, 0] ∧ win0_3.index t = ![0, 0] ∧ win0_4.index t = ![0, 0] ∧ win0_5.index t = ![0, 0]
    ∧ win0_6.index t = ![t.val / 64, t.val % 64, 0] ∧ win0_7.index t = ![t.val / 64, 0, 0] :=
  (by decide +kernel : ∀ t : Fin grid0.N, _)

/-- The reference's convolution rows over the kernel's arguments. -/
abbrev X (c : Dev nD) : FVec Ideal Cert.ConvRefIdeal.S2x16414x256 .f32 :=
  rows (m ((c : Thread nD τ).loc main_arg0)) (m ((c : Thread nD τ).loc main_arg1))

/-- The reference's convolution over the kernel's arguments. -/
abbrev Y (c : Dev nD) : FVec Ideal Cert.ConvRefIdeal.S2x16384x256 .f32 :=
  conv (X m c) (m ((c : Thread nD τ).loc main_arg2)) (m ((c : Thread nD τ).loc main_arg3))

/-- The tile's gated rows are the reference's rows from `256 * (t % 64) + 30` on. -/
theorem glu_at (c : Dev nD) (t : Fin cfg0.N) (p : S256x256.Idx) (q : Cert.ConvRefIdeal.S2x16414x256.Idx)
    (h0 : (q 0 : ℕ) = t.val / 64) (h1 : (q 1 : ℕ) = t.val % 64 * 256 + 30 + p 0) (h2 : (q 2 : ℕ) = p 1) :
    k0_pay3 (iblk m c 0 t) p = X m c q := by
  have hge : ¬ ((q 1 : ℕ) < 30) := by omega
  pointwise [k0_pay3, X, rows]
  simp only [dif_neg hge, zero_sub]
  blk_point [iblk, V, idx t]

/-- The history with two rows of zeros in front, as the region finds it. -/
theorem V_hist (c : Dev nD) : V m c main_v3 = pad S2x32x256 ![0, 2, 0] ![0, 0, 0] ![0, 0, 0]
    (m ((c : Thread nD τ).loc main_arg1) : FVec Ideal S2x30x256 .f32) (sitofp (F := Ideal) .f32 (constantI S_ 32 0#32))
    pads_S2x30x256_S2x32x256_000_200_000 h_S_ := by
  rfl

/-- The bias, as the region finds it. -/
theorem V_bias (c : Dev nD) : V m c main_v0 = broadcastInDim S1x256 ![1] bcast_S256_S1x256_1 (m ((c : Thread nD τ).loc main_arg3)) := by
  rfl

/-- The gain, as the region finds it. -/
theorem V_gain (c : Dev nD) : V m c main_v1 = broadcastInDim S1x256 ![1] bcast_S256_S1x256_1 (m ((c : Thread nD τ).loc main_arg4)) := by
  rfl

/-- The offset, as the region finds it. -/
theorem V_offset (c : Dev nD) : V m c main_v2 = broadcastInDim S1x256 ![1] bcast_S256_S1x256_1 (m ((c : Thread nD τ).loc main_arg5)) := by
  rfl

/-- Row `r ≥ 2` of the padded history is the reference's row `r - 2`. -/
theorem hist_at (c : Dev nD) (t : Fin cfg0.N) (p : S32x256.Idx) (q : Cert.ConvRefIdeal.S2x16414x256.Idx)
    (h0 : (q 0 : ℕ) = t.val / 64) (h1 : (q 1 : ℕ) + 2 = p 0) (h2 : (q 2 : ℕ) = p 1) :
    k0_pay2 (iblk m c 1 t) p = X m c q := by
  have hp := (p 0).isLt
  have hge : (q 1 : ℕ) < 30 := by change (p 0 : ℕ) < 32 at hp; omega
  pointwise [k0_pay2, X, rows]
  simp only [dif_pos hge]
  obtain ⟨i, i0, i1, i2⟩ : ∃ i : S2x32x256.Idx, (i 0 : ℕ) = q 0 ∧ (i 1 : ℕ) = p 0 ∧ (i 2 : ℕ) = q 2 :=
    ⟨ix3 (q 0) (p 0) (q 2), rfl, rfl, rfl⟩
  have h : ((cfg0.win 1).blk t).view.emb (ix3 0 (p 0) (p 1)) = i := by blk_ext [idx t]
  show V m c main_v3 (((cfg0.win 1).blk t).view.emb (ix3 0 (p 0) (p 1))) = _
  rw [h, V_hist]
  generalize m ((c : Thread nD τ).loc main_arg1) = H
  change FVec Ideal S2x30x256 .f32 at H
  have hp' : (p 0 : ℕ) < 32 := (p 0).isLt
  have hq0 : (q 0 : ℕ) < 2 := (q 0).isLt
  have hq2 : (q 2 : ℕ) < 256 := (q 2).isLt
  pointwise
  refine (dif_pos fun a => ?_).trans (by blk_ext)
  fin_cases a
  · refine ⟨?_, ?_, ?_⟩ <;> simp <;> omega
  · refine ⟨?_, ?_, ?_⟩ <;> simp <;> omega
  · refine ⟨?_, ?_, ?_⟩ <;> simp <;> omega

/-- The taps' block is the taps. -/
theorem w_at (c : Dev nD) (t : Fin cfg0.N) (k : Fin 31) (j : Fin 256) :
    iblk m c 2 t (ix2 k j) = m ((c : Thread nD τ).loc main_arg2) (ix2 k j) := by
  blk_point [iblk, V, idx t]

/-- The bias' block is the bias. -/
theorem b_at (c : Dev nD) (t : Fin cfg0.N) (j : Fin 256) :
    iblk m c 3 t (ix2 0 j) = m ((c : Thread nD τ).loc main_arg3) (ix1 j) := by
  have h : ((cfg0.win 3).blk t).view.emb (ix2 0 j) = ix2 0 j := by blk_ext [idx t]
  show V m c main_v0 (((cfg0.win 3).blk t).view.emb (ix2 0 j)) = _
  rw [h, V_bias]
  pointwise

/-- The gain's block is the gain. -/
theorem g_at (c : Dev nD) (t : Fin cfg0.N) (j : Fin 256) :
    iblk m c 4 t (ix2 0 j) = m ((c : Thread nD τ).loc main_arg4) (ix1 j) := by
  have h : ((cfg0.win 4).blk t).view.emb (ix2 0 j) = ix2 0 j := by blk_ext [idx t]
  show V m c main_v1 (((cfg0.win 4).blk t).view.emb (ix2 0 j)) = _
  rw [h, V_gain]
  pointwise

/-- The offset's block is the offset. -/
theorem o_at (c : Dev nD) (t : Fin cfg0.N) (j : Fin 256) :
    iblk m c 5 t (ix2 0 j) = m ((c : Thread nD τ).loc main_arg5) (ix1 j) := by
  have h : ((cfg0.win 5).blk t).view.emb (ix2 0 j) = ix2 0 j := by blk_ext [idx t]
  show V m c main_v2 (((cfg0.win 5).blk t).view.emb (ix2 0 j)) = _
  rw [h, V_offset]
  pointwise

/-- A row of the buffer's last 256, whatever was stored before the gated rows, is the reference's row. -/
theorem buf_ge (c : Dev nD) (t : Fin cfg0.N) (L : List (View.Piece (Elt Ideal) S288x256 .f32)) (j : S288x256.Idx)
    (q : Cert.ConvRefIdeal.S2x16414x256.Idx) (hj : 32 ≤ (j 0 : ℕ))
    (h0 : (q 0 : ℕ) = t.val / 64) (h1 : (q 1 : ℕ) + 2 = t.val % 64 * 256 + j 0) (h2 : (q 2 : ℕ) = j 1) :
    View.canon (⟨Rect.unit ![32, 0] ![256, 256] inb_S288x256_S256x256_32_0, k0_pay3 (iblk m c 0 t)⟩ :: L) j = X m c q := by
  have hlt : (j 0 : ℕ) < 288 := (j 0).isLt
  obtain ⟨p, p0, p1⟩ : ∃ p : S256x256.Idx, (p 0 : ℕ) + 32 = j 0 ∧ (p 1 : ℕ) = j 1 :=
    ⟨ix2 ⟨(j 0 : ℕ) - 32, by omega⟩ (j 1), Nat.sub_add_cancel hj, rfl⟩
  have e : (Rect.unit (s := S288x256) ![32, 0] ![256, 256] inb_S288x256_S256x256_32_0).emb p = j := by
    blk_ext
  rw [← e]
  exact (View.canon_cons_emb _ _ _ _).trans (glu_at m c t p q h0 (by omega) (by omega))

/-- In a batch's first tile the buffer's first 32 rows hold the padded history. -/
theorem buf_lt (c : Dev nD) (t : Fin cfg0.N) (ht : t.val % 64 = 0) (j : S288x256.Idx)
    (q : Cert.ConvRefIdeal.S2x16414x256.Idx) (hj : (j 0 : ℕ) < 32)
    (h0 : (q 0 : ℕ) = t.val / 64) (h1 : (q 1 : ℕ) + 2 = t.val % 64 * 256 + j 0) (h2 : (q 2 : ℕ) = j 1) :
    View.canon (Val := Elt Ideal) (e := .f32) [⟨Rect.unit ![32, 0] ![256, 256] inb_S288x256_S256x256_32_0, k0_pay3 (iblk m c 0 t)⟩,
      ⟨Rect.unit ![0, 0] ![32, 256] inb_S288x256_S32x256_0_0, k0_pay2 (iblk m c 1 t)⟩] j = X m c q := by
  obtain ⟨p, p0, p1⟩ : ∃ p : S32x256.Idx, (p 0 : ℕ) = j 0 ∧ (p 1 : ℕ) = j 1 :=
    ⟨ix2 ⟨(j 0 : ℕ), hj⟩ (j 1), rfl, rfl⟩
  have e : (Rect.unit (s := S288x256) ![0, 0] ![32, 256] inb_S288x256_S32x256_0_0).emb p = j := by
    blk_ext
  have hn : j ∉ (Rect.unit (s := S288x256) ![32, 0] ![256, 256] inb_S288x256_S256x256_32_0).set := by
    rw [Rect.mem_set_unit]
    intro h
    have := (h 0).1
    change 32 ≤ (j 0 : ℕ) at this
    omega
  refine (View.canon_cons_of_not_mem (Val := Elt Ideal) (e := .f32) ⟨_, k0_pay3 (iblk m c 0 t)⟩ _ hn).trans ?_
  rw [← e]
  exact (View.canon_cons_emb _ _ _ _).trans (hist_at m c t p q h0 (by omega) (by omega))

/-- A strip `L` of 32 rows of the buffer, from row `R` on, holds the reference's rows of point `t`. -/
def Reads (c : Dev nD) (t : Fin cfg0.N) (R : ℕ) (L : Vec Ideal S32x256 .f32) : Prop :=
  ∀ (p : S32x256.Idx) (q : Cert.ConvRefIdeal.S2x16414x256.Idx), (q 0 : ℕ) = t.val / 64 →
    (q 1 : ℕ) + 2 = t.val % 64 * 256 + R + p 0 → (q 2 : ℕ) = p 1 → L p = X m c q

/-- A load of 32 rows from row `R ≥ 32` on. -/
theorem reads_ge (c : Dev nD) (t : Fin cfg0.N) (L : List (View.Piece (Elt Ideal) S288x256 .f32)) (R : ℕ) (hR : 32 ≤ R)
    (inb : ∀ a, (![R, 0] : Fin 2 → ℕ) a + (![32, 256] : Fin 2 → ℕ) a ≤ S288x256.size a) :
    Reads m c t R ((View.whole cc0_scratch0).readCov
      (⟨Rect.unit ![32, 0] ![256, 256] inb_S288x256_S256x256_32_0, k0_pay3 (iblk m c 0 t)⟩ :: L)
      (Rect.unit (s := S288x256) ![R, 0] ![32, 256] inb).toLoadRect) := by
  intro p q h0 h1 h2
  rw [View.readCov_eq_canon']
  refine buf_ge m c t L _ q ?_ h0 ?_ ?_
  · show 32 ≤ R + 1 * (p 0 : ℕ); omega
  · show _ = t.val % 64 * 256 + (R + 1 * (p 0 : ℕ)); omega
  · show _ = 0 + 1 * (p 1 : ℕ); omega

/-- A load of 32 rows from any row on, in a batch's first tile. -/
theorem reads_first (c : Dev nD) (t : Fin cfg0.N) (ht : t.val % 64 = 0) (R : ℕ)
    (inb : ∀ a, (![R, 0] : Fin 2 → ℕ) a + (![32, 256] : Fin 2 → ℕ) a ≤ S288x256.size a) :
    Reads m c t R ((View.whole cc0_scratch0).readCov
      [⟨Rect.unit ![32, 0] ![256, 256] inb_S288x256_S256x256_32_0, k0_pay3 (iblk m c 0 t)⟩,
      ⟨Rect.unit ![0, 0] ![32, 256] inb_S288x256_S32x256_0_0, k0_pay2 (iblk m c 1 t)⟩]
      (Rect.unit (s := S288x256) ![R, 0] ![32, 256] inb).toLoadRect) := by
  intro p q h0 h1 h2
  rw [View.readCov_eq_canon']
  by_cases h : 32 ≤ R + (p 0 : ℕ)
  · refine buf_ge m c t _ _ q ?_ h0 ?_ ?_
    · show 32 ≤ R + 1 * (p 0 : ℕ); omega
    · show _ = t.val % 64 * 256 + (R + 1 * (p 0 : ℕ)); omega
    · show _ = 0 + 1 * (p 1 : ℕ); omega
  · refine buf_lt m c t ht _ q ?_ h0 ?_ ?_
    · show R + 1 * (p 0 : ℕ) < 32; omega
    · show _ = t.val % 64 * 256 + (R + 1 * (p 0 : ℕ)); omega
    · show _ = 0 + 1 * (p 1 : ℕ); omega

/-- What the point before left in the buffer's first 32 rows, where it is the reference's rows before this tile. -/
def Carries (c : Dev nD) (t : Fin cfg0.N) (B : Vec Ideal S288x256 .f32) : Prop :=
  ∀ (j : S288x256.Idx) (q : Cert.ConvRefIdeal.S2x16414x256.Idx), (j 0 : ℕ) < 32 → (q 0 : ℕ) = t.val / 64 →
    (q 1 : ℕ) + 2 = t.val % 64 * 256 + j 0 → (q 2 : ℕ) = j 1 → B j = X m c q

/-- A row of the buffer after the gated rows are stored over what the point before left. -/
theorem later_at (c : Dev nD) (t : Fin cfg0.N) (B : Vec Ideal S288x256 .f32) (hB : Carries m c t B)
    (hw : (Memref.whole cc0_scratch0).IsWhole) (j : S288x256.Idx) (q : Cert.ConvRefIdeal.S2x16414x256.Idx)
    (h0 : (q 0 : ℕ) = t.val / 64) (h1 : (q 1 : ℕ) + 2 = t.val % 64 * 256 + j 0) (h2 : (q 2 : ℕ) = j 1) :
    View.read (Elt Ideal) (View.whole cc0_scratch0) ((View.whole cc0_scratch0).writes (Elt Ideal) (hw.unread B)
      [⟨Rect.unit ![32, 0] ![256, 256] inb_S288x256_S256x256_32_0, k0_pay3 (iblk m c 0 t)⟩]) j = X m c q := by
  by_cases h : 32 ≤ (j 0 : ℕ)
  · have hlt : (j 0 : ℕ) < 288 := (j 0).isLt
    obtain ⟨p', p0, p1⟩ : ∃ p : S256x256.Idx, (p 0 : ℕ) + 32 = j 0 ∧ (p 1 : ℕ) = j 1 :=
      ⟨ix2 ⟨(j 0 : ℕ) - 32, by omega⟩ (j 1), Nat.sub_add_cancel h, rfl⟩
    have e : (Rect.unit (s := S288x256) ![32, 0] ![256, 256] inb_S288x256_S256x256_32_0).emb p' = j := by
      blk_ext
    rw [← e]
    exact (View.read_writes_cons_emb _ _ _ _ _ _).trans (glu_at m c t p' q h0 (by omega) (by omega))
  · have hn : j ∉ (Rect.unit (s := S288x256) ![32, 0] ![256, 256] inb_S288x256_S256x256_32_0).set := by
      rw [Rect.mem_set_unit]
      intro h
      have := (h 0).1
      change 32 ≤ (j 0 : ℕ) at this
      omega
    refine (View.read_writes_apply_of_forall_not_mem _ _ j _ ?_).trans ?_
    · intro p hp
      rw [List.mem_singleton] at hp
      rw [hp]
      exact hn
    · exact (congrFun (hw.read_unread B) j).trans (hB j q (by omega) h0 (by omega) (by omega))

/-- The sum over the 31 taps, written out in the kernel's order. -/
theorem taps (w x : Fin 31 → EReal) : ∑ k, w k * x k = w 0 * x 0 + w 1 * x 1 + w 2 * x 2 + w 3 * x 3 + w 4 * x 4 + w 5 * x 5 + w 6 * x 6 + w 7 * x 7 + w 8 * x 8 + w 9 * x 9 + w 10 * x 10 + w 11 * x 11 + w 12 * x 12 + w 13 * x 13 + w 14 * x 14 + w 15 * x 15 + w 16 * x 16 + w 17 * x 17 + w 18 * x 18 + w 19 * x 19 + w 20 * x 20 + w 21 * x 21 + w 22 * x 22 + w 23 * x 23 + w 24 * x 24 + w 25 * x 25 + w 26 * x 26 + w 27 * x 27 + w 28 * x 28 + w 29 * x 29 + w 30 * x 30 := by
  rw [sum_taps]
  simp only [zero_add]

/-- Loads `F` of 32 rows of the buffer, from any row from `R0` on, are the rows `Xr` of point `t`. -/
abbrev Loads (t : Fin cfg0.N) (Xr : FVec Ideal Cert.ConvRefIdeal.S2x16414x256 .f32)
    (F : (r : LoadRect S288x256) → r.shape.Idx → EReal) (R0 : ℕ) : Prop :=
  ∀ (R : ℕ) (hR : R0 ≤ R) (inb : ∀ a, (![R, 0] : Fin 2 → ℕ) a + (![32, 256] : Fin 2 → ℕ) a ≤ S288x256.size a)
    (p0 : Fin 32) (p1 : Fin 256) (q0 : Fin 2) (q1 : Fin 16414), (q0 : ℕ) = t.val / 64 →
    (q1 : ℕ) + 2 = t.val % 64 * 256 + R + p0 →
    F (Rect.unit (s := S288x256) ![R, 0] ![32, 256] inb).toLoadRect (ix2 p0 p1) = Xr (ix3 q0 q1 p1)

end Cert.ConvIdeal.RefValue

end
-- ==== Proof.ConvFirst.lean ====
module

public import proofs.«01_k».proof.Proof.ConvRows

/-! The convolution call: a batch's first tile. -/

@[expose] public section

set_option maxRecDepth 16384

noncomputable section

open Idealize.ShloMosaic Idealize.ShloMosaic.TcCoe Idealize.SL.Sem Idealize.ShloMosaic.StableHlo
open Idealize.ShloMosaic.Pipeline (Dat)
open Cert.ConvRefIdeal.Spec

namespace Cert.ConvIdeal.RefValue
open Cert.ConvIdeal Cert.ConvIdeal.Gen
variable (m : (ℓ : Loc nD τ sig) → Buf (Elt Ideal) ℓ)

set_option maxHeartbeats 8000000 in
/-- A batch's first tile: what the point writes is the reference's normalised and gated convolution. -/
theorem first_at (c : Dev nD) (t : Fin cfg0.N) (ht : t.val % 64 = 0) (y : S1x256x256.Idx)
    (i : Cert.ConvRefIdeal.S2x16384x256.Idx) (i0 : (i 0 : ℕ) = t.val / 64)
    (i1 : (i 1 : ℕ) = t.val % 64 * 256 + y 1) (i2 : (i 2 : ℕ) = y 2) :
    (outsAt0 m c t.val t.isLt).1 y
      = out (Y m c) (m ((c : Thread nD τ).loc main_arg4)) (m ((c : Thread nD τ).loc main_arg5)) i := by
  rw [outsAt0_A m c t ht]; frame_out
  have hF : Loads t (X m c) ((View.whole cc0_scratch0).readCov (Val := Elt Ideal)
      [⟨Rect.unit ![32, 0] ![256, 256] inb_S288x256_S256x256_32_0, k0_pay3 (iblk m c 0 t)⟩,
      ⟨Rect.unit ![0, 0] ![32, 256] inb_S288x256_S32x256_0_0, k0_pay2 (iblk m c 1 t)⟩]) 0 :=
    fun R _ inb p0 p1 q0 q1 h0 h1 => reads_first m c t ht R inb (ix2 p0 p1) (ix3 q0 q1 p1) h0 h1 rfl
  generalize (View.whole cc0_scratch0).readCov (Val := Elt Ideal)
      [⟨Rect.unit ![32, 0] ![256, 256] inb_S288x256_S256x256_32_0, k0_pay3 (iblk m c 0 t)⟩,
      ⟨Rect.unit ![0, 0] ![32, 256] inb_S288x256_S32x256_0_0, k0_pay2 (iblk m c 1 t)⟩] = F at hF ⊢
  canon_tiles x h
  all_goals
    open_payloads
    refine (strip_at _ _ _ _ (Y m c) (m ((c : Thread nD τ).loc main_arg4)) (m ((c : Thread nD τ).loc main_arg5)) x i
      (by omega) ?_ (g_at m c t) (o_at m c t))
    intro k
    show _ = conv (X m c) (m ((c : Thread nD τ).loc main_arg2)) (m ((c : Thread nD τ).loc main_arg3)) (ix3 (i 0) (i 1) k)
    unfold conv
    rw [taps]
    generalize X m c = Xr at hF ⊢
    pointwise
    refine congrArg₂ HAdd.hAdd ?_ (b_at m c t k)
    repeat' (refine congrArg₂ HAdd.hAdd ?_ ?_)
    all_goals refine congrArg₂ HMul.hMul (w_at m c t _ k) ?_
    all_goals refine hF _ (Nat.zero_le _) _ _ _ _ _ i0 ?_
    all_goals dsimp only [Fin.val_mk, ix3, ix2]
    all_goals omega

end Cert.ConvIdeal.RefValue

end
-- ==== Proof.ConvLater.lean ====
module

public import proofs.«01_k».proof.Proof.ConvRows

/-! The convolution call: a batch's later tiles. -/

@[expose] public section

set_option maxRecDepth 16384

noncomputable section

open Idealize.ShloMosaic Idealize.ShloMosaic.TcCoe Idealize.SL.Sem Idealize.ShloMosaic.StableHlo
open Idealize.ShloMosaic.Pipeline (Dat)
open Cert.ConvRefIdeal.Spec

namespace Cert.ConvIdeal.RefValue
open Cert.ConvIdeal Cert.ConvIdeal.Gen
variable (m : (ℓ : Loc nD τ sig) → Buf (Elt Ideal) ℓ)

set_option maxHeartbeats 8000000 in
/-- A later tile, where the point before left the rows before it: what the point writes is the reference's normalised
and gated convolution. -/
theorem later_tile (c : Dev nD) (t : Fin cfg0.N) (ht : t.val % 64 ≠ 0)
    (hB : Carries m c t (outsAt0 m c (t.val - 1) (Nat.lt_of_le_of_lt (Nat.sub_le _ _) t.isLt)).2.2) (y : S1x256x256.Idx)
    (i : Cert.ConvRefIdeal.S2x16384x256.Idx) (i0 : (i 0 : ℕ) = t.val / 64)
    (i1 : (i 1 : ℕ) = t.val % 64 * 256 + y 1) (i2 : (i 2 : ℕ) = y 2) :
    (outsAt0 m c t.val t.isLt).1 y
      = out (Y m c) (m ((c : Thread nD τ).loc main_arg4)) (m ((c : Thread nD τ).loc main_arg5)) i := by
  rw [outsAt0_B m c t ht]; frame_out
  have hF : Loads t (X m c) ((View.whole cc0_scratch0).readCov (Val := Elt Ideal)
      [⟨Rect.unit ![32, 0] ![256, 256] inb_S288x256_S256x256_32_0, k0_pay3 (iblk m c 0 t)⟩]) 32 :=
    fun R hR inb p0 p1 q0 q1 h0 h1 => reads_ge m c t _ R hR inb (ix2 p0 p1) (ix3 q0 q1 p1) h0 h1 rfl
  generalize (View.whole cc0_scratch0).readCov (Val := Elt Ideal)
      [⟨Rect.unit ![32, 0] ![256, 256] inb_S288x256_S256x256_32_0, k0_pay3 (iblk m c 0 t)⟩] = F at hF ⊢
  obtain ⟨hw, hD⟩ : ∃ hw : (Memref.whole cc0_scratch0).IsWhole, ∀ (j0 : Fin 288) (j1 : Fin 256) (q0 : Fin 2) (q1 : Fin 16414), (q0 : ℕ) = t.val / 64 →
      (q1 : ℕ) + 2 = t.val % 64 * 256 + j0 → View.read (Elt Ideal) (View.whole cc0_scratch0)
        ((View.whole cc0_scratch0).writes (Elt Ideal)
          (hw.unread (outsAt0 m c (t.val - 1) (Nat.lt_of_le_of_lt (Nat.sub_le _ _) t.isLt)).2.2)
          [⟨Rect.unit ![32, 0] ![256, 256] inb_S288x256_S256x256_32_0, k0_pay3 (iblk m c 0 t)⟩]) (ix2 j0 j1) = X m c (ix3 q0 q1 j1) :=
    ⟨Memref.isWhole_whole _, fun j0 j1 q0 q1 h0 h1 => later_at m c t _ hB _ (ix2 j0 j1) (ix3 q0 q1 j1) h0 h1 rfl⟩
  generalize View.read (Elt Ideal) (View.whole cc0_scratch0)
        ((View.whole cc0_scratch0).writes (Elt Ideal)
          (hw.unread (outsAt0 m c (t.val - 1) (Nat.lt_of_le_of_lt (Nat.sub_le _ _) t.isLt)).2.2)
          [⟨Rect.unit ![32, 0] ![256, 256] inb_S288x256_S256x256_32_0, k0_pay3 (iblk m c 0 t)⟩]) = D at hD ⊢
  canon_tiles x h
  all_goals
    open_payloads
    refine (strip_at _ _ _ _ (Y m c) (m ((c : Thread nD τ).loc main_arg4)) (m ((c : Thread nD τ).loc main_arg5)) x i
      (by omega) ?_ (g_at m c t) (o_at m c t))
    intro k
    show _ = conv (X m c) (m ((c : Thread nD τ).loc main_arg2)) (m ((c : Thread nD τ).loc main_arg3)) (ix3 (i 0) (i 1) k)
    unfold conv
    rw [taps]
    generalize X m c = Xr at hF hD ⊢
    pointwise
    refine congrArg₂ HAdd.hAdd ?_ (b_at m c t k)
    repeat' (refine congrArg₂ HAdd.hAdd ?_ ?_)
    all_goals refine congrArg₂ HMul.hMul (w_at m c t _ k) ?_
    all_goals first
      | refine hD _ _ _ _ i0 ?_
      | refine hF _ (by omega) _ _ _ _ _ i0 ?_
    all_goals dsimp only [Fin.val_mk, ix3, ix2]
    all_goals omega

end Cert.ConvIdeal.RefValue

end
-- ==== Proof.ConvValue.lean ====
module

public import proofs.«01_k».proof.Proof.ConvRows

/-! The convolution call: the tail of the batch, and the rows a point leaves for the next one. -/

@[expose] public section

set_option maxRecDepth 16384

noncomputable section

open Idealize.ShloMosaic Idealize.ShloMosaic.TcCoe Idealize.SL.Sem Idealize.ShloMosaic.StableHlo
open Idealize.ShloMosaic.Pipeline (Dat)
open Cert.ConvRefIdeal.Spec

namespace Cert.ConvIdeal.RefValue
open Cert.ConvIdeal Cert.ConvIdeal.Gen
variable (m : (ℓ : Loc nD τ sig) → Buf (Elt Ideal) ℓ)

/-- The rows moved to the buffer's start are moved as they are. -/
theorem pay1 (v : Vec Ideal S32x256 .f32) : k0_pay1 (F := Ideal) v = v := by
  funext x
  pointwise [k0_pay1]

/-- The buffer's first 32 rows after a point are the reference's last 32 rows of its tile. -/
theorem left_at (c : Dev nD) (t : Fin cfg0.N) (j : S288x256.Idx) (q : Cert.ConvRefIdeal.S2x16414x256.Idx)
    (hj : (j 0 : ℕ) < 32) (h0 : (q 0 : ℕ) = t.val / 64) (h1 : (q 1 : ℕ) = t.val % 64 * 256 + 254 + j 0)
    (h2 : (q 2 : ℕ) = j 1) : (outsAt0 m c t.val t.isLt).2.2 j = X m c q := by
  obtain ⟨p, p0, p1⟩ : ∃ p : S32x256.Idx, (p 0 : ℕ) = j 0 ∧ (p 1 : ℕ) = j 1 :=
    ⟨ix2 ⟨(j 0 : ℕ), hj⟩ (j 1), rfl, rfl⟩
  have e : (Rect.unit (s := S288x256) ![0, 0] ![32, 256] inb_S288x256_S32x256_0_0).emb p = j := by
    blk_ext
  by_cases ht : t.val % 64 = 0
  · rw [outsAt0_A m c t ht]; frame_out
    rw [← e]
    refine (View.canon_cons_emb _ _ _ _).trans ?_
    refine (congrFun (pay1 _) p).trans ?_
    have hq : (q 1 : ℕ) + 2 = t.val % 64 * 256 + 256 + p 0 := by omega
    have hq' : (q 2 : ℕ) = p 1 := by omega
    exact reads_ge m c t _ 256 (by norm_num) _ p q h0 hq hq'
  · rw [outsAt0_B m c t ht]; frame_out
    rw [← e]
    refine (View.canon_cons_emb _ _ _ _).trans ?_
    refine (congrFun (pay1 _) p).trans ?_
    have hq : (q 1 : ℕ) + 2 = t.val % 64 * 256 + 256 + p 0 := by omega
    have hq' : (q 2 : ℕ) = p 1 := by omega
    exact reads_ge m c t _ 256 (by norm_num) _ p q h0 hq hq'

/-- What a point finds in the buffer's first 32 rows, past a batch's first tile. -/
theorem carries (c : Dev nD) (t : Fin cfg0.N) (ht : t.val % 64 ≠ 0) :
    Carries m c t (outsAt0 m c (t.val - 1) (Nat.lt_of_le_of_lt (Nat.sub_le _ _) t.isLt)).2.2 := by
  intro j q hj h0 h1 h2
  exact left_at m c ⟨t.val - 1, Nat.lt_of_le_of_lt (Nat.sub_le _ _) t.isLt⟩ j q hj (by dsimp only; omega)
    (by dsimp only; omega) h2

/-- What a batch's last point writes into the second result is the tail of its rows. -/
theorem tail_at (c : Dev nD) (t : Fin cfg0.N) (ht : t.val % 64 = 63) (y : S1x32x256.Idx)
    (i : Cert.ConvRefIdeal.S2x32x256.Idx) (i0 : (i 0 : ℕ) = t.val / 64) (i1 : (i 1 : ℕ) = y 1) (i2 : (i 2 : ℕ) = y 2) :
    (outsAt0 m c t.val t.isLt).2.1 y = tail (X m c) i := by
  rw [outsAt0_B m c t (by omega)]; frame_out
  have hF : Loads t (X m c) ((View.whole cc0_scratch0).readCov (Val := Elt Ideal)
      [⟨Rect.unit ![32, 0] ![256, 256] inb_S288x256_S256x256_32_0, k0_pay3 (iblk m c 0 t)⟩]) 32 :=
    fun R hR inb p0 p1 q0 q1 h0 h1 => reads_ge m c t _ R hR inb (ix2 p0 p1) (ix3 q0 q1 p1) h0 h1 rfl
  generalize (View.whole cc0_scratch0).readCov (Val := Elt Ideal)
      [⟨Rect.unit ![32, 0] ![256, 256] inb_S288x256_S256x256_32_0, k0_pay3 (iblk m c 0 t)⟩] = F at hF ⊢
  generalize X m c = Xr at hF ⊢
  pointwise [k0_pay75, tail]
  have e : (ix3 (i 0) ⟨16382 + (i 1 : ℕ), by have : (i 1 : ℕ) < 32 := (i 1).isLt; omega⟩ (y 2) : Cert.ConvRefIdeal.S2x16414x256.Idx)
      = ix3 (i 0) ⟨16382 + (i 1 : ℕ), by have : (i 1 : ℕ) < 32 := (i 1).isLt; omega⟩ (i 2) := by
    rw [show (i 2 : Fin 256) = y 2 from Fin.ext i2]
    rfl
  refine (hF 256 (by norm_num) _ (y 1) (y 2) _ _ i0 ?_).trans (congrArg Xr e)
  dsimp only
  omega

end Cert.ConvIdeal.RefValue

end
-- ==== Proof.ConvClaim.lean ====
module

public import proofs.«01_k».proof.Defs
public import proofs.«01_k».proof.Proof.ConvFirst
public import proofs.«01_k».proof.Proof.ConvLater
public import proofs.«01_k».proof.Proof.ConvValue

/-! The causal depthwise convolution: the kernel's two arrays, and the claim. -/

@[expose] public section

set_option maxRecDepth 16384

noncomputable section

open Idealize.ShloMosaic Idealize.ShloMosaic.TcCoe Idealize.SL.Sem Cert.ConvRefIdeal.Spec

namespace Cert.ConvIdeal.RefValue
open Cert.ConvIdeal Cert.ConvIdeal.Gen
variable (m : (ℓ : Loc nD τ sig) → Buf (Elt Ideal) ℓ)

/-- The kernel's first array is the reference's. -/
theorem final6 (c : Dev nD) : (dats m 0 c).arrAt 6 (cfgs 0).N
    = out (Y m c) (m ((c : Thread nD τ).loc main_arg4)) (m ((c : Thread nD τ).loc main_arg5)) := by
  refine (dats m 0 c).arrAt_eq_of_covers 6 _ (by decide +kernel) fun t hf y => ?_
  blk_simp
  rw [after0_6]
  by_cases ht : t.val % 64 = 0
  · exact first_at m c t ht y _ (by blk_simp [idx t]) (by blk_simp [idx t]) (by blk_simp [idx t])
  · exact later_tile m c t ht (carries m c t ht) y _ (by blk_simp [idx t]) (by blk_simp [idx t]) (by blk_simp [idx t])

/-- The kernel's second array, the state carried on, is the reference's. -/
theorem final7 (c : Dev nD) : (dats m 0 c).arrAt 7 (cfgs 0).N = tail (X m c) := by
  refine (dats m 0 c).arrAt_eq_of_covers 7 _ (by decide +kernel) fun t hf y => ?_
  have ht : t.val % 64 = 63 := (flush0_7 t).mp hf
  blk_simp
  rw [after0_7]
  exact tail_at m c t ht y _ (by blk_simp [idx t]) (by blk_simp [idx t]) (by blk_simp [idx t])

end Cert.ConvIdeal.RefValue

namespace Cert.Proof

section
open Cert.ConvRefIdeal Cert.ConvRefIdeal.Gen

set_option maxHeartbeats 4000000 in
/-- The reference's run: it leaves the normalised and gated convolution, and the last of the convolution's rows. -/
theorem run_ConvRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v256) = out (conv (rows (m ((c.tc : Thread nD τ).loc main_arg0)) (m ((c.tc : Thread nD τ).loc main_arg1))) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_v257) = tail (rows (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono ?_ (Cert.ConvRefIdeal.Value.run m ρ)
  intro r h c
  obtain ⟨r0, r1, r2⟩ := h c
  refine ⟨r0.trans ?_, r1.trans ?_, r2⟩
  · unfold Cert.ConvRefIdeal.Value.res_main_v254 Cert.ConvRefIdeal.Value.res_main_v236 Cert.ConvRefIdeal.Value.res_main_v234
    rw [conv_ref]
    rfl
  · rfl

end

set_option maxHeartbeats 4000000 in
/-- Over the extended reals the kernel's two results are the reference's: the causal depthwise convolution of
`a * sigmoid(b)` after the history, normalised over the channels and gated by its own sigmoid, and its last rows. -/
theorem algebraic_Conv : Cert.algebraic_ConvIdeal_ConvRefIdeal := by
  pair_intro
  · run_from Cert.ConvIdeal.Gen.run_main m g
    all_goals rfl
  · refine (θ_run _ _ _).mono ?_ (run_ConvRef m' g')
    intro r h c
    obtain ⟨e0, e1, e2, e3, e4, e5⟩ := hagree c
    obtain ⟨r0, r1, r2⟩ := h c
    refine ⟨r0.trans (Eq.trans ?_ (Cert.ConvIdeal.RefValue.final6 m c).symm),
      r1.trans (Eq.trans ?_ (Cert.ConvIdeal.RefValue.final7 m c).symm), r2⟩
    · rw [e0, e1, e2, e3, e4, e5]
    · rw [e0, e1]

end Cert.Proof

end
-- ==== Proof.lean ====
module

public import proofs.«01_k».proof.Defs
public import proofs.«01_k».proof.Proof.ProjClaim
public import proofs.«01_k».proof.Proof.FfnClaim
public import proofs.«01_k».proof.Proof.MoeClaim
public import proofs.«01_k».proof.Proof.ConvClaim
public import proofs.«01_k».proof.Proof.Gen.Proj.Frame
public import proofs.«01_k».proof.Proof.Gen.ProjIdeal.Frame
public import proofs.«01_k».proof.Proof.Gen.Ffn.Frame
public import proofs.«01_k».proof.Proof.Gen.FfnIdeal.Frame
public import proofs.«01_k».proof.Proof.Gen.Moe.Frame
public import proofs.«01_k».proof.Proof.Gen.MoeIdeal.Frame
public import proofs.«01_k».proof.Proof.Gen.Conv.Frame
public import proofs.«01_k».proof.Proof.Gen.ConvIdeal.Frame
public import proofs.«01_k».proof.Proof.Gen.Router.Frame
public import proofs.«01_k».proof.Proof.Gen.RouterIdeal.Frame
public import proofs.«01_k».proof.Proof.Gen.ProjRefIdeal.Run
public import proofs.«01_k».proof.Proof.Gen.FfnRefIdeal.Run
public import proofs.«01_k».proof.Proof.Gen.MoeRefIdeal.Run
public import proofs.«01_k».proof.Proof.Gen.ConvRefIdeal.Run
public import proofs.«01_k».proof.Proof.Gen.Pre_gates_weigh
public import Idealize.ShloMosaic.Lib.Claim

@[expose] public section

set_option maxRecDepth 16384

noncomputable section

namespace Cert.Proof

open Idealize.ShloMosaic Idealize.SL.Sem

/-- The reference `ProjRefIdeal` runs to its end and leaves its arguments and every counter as they were. -/
theorem frame_ProjRefIdeal : Cert.quiescent_ProjRefIdeal := fun m g _ =>
  (θ_run _ _ _).mono (fun r h => ⟨fun c => (h c).2.2.2.2, sem_eq_zero_of_no_sems (by decide) r.2⟩)
    (Cert.ProjRefIdeal.Value.run m g)

/-- The reference `FfnRefIdeal` runs to its end and leaves its arguments and every counter as they were. -/
theorem frame_FfnRefIdeal : Cert.quiescent_FfnRefIdeal := fun m g _ =>
  (θ_run _ _ _).mono (fun r h => ⟨fun c => (h c).2, sem_eq_zero_of_no_sems (by decide) r.2⟩)
    (Cert.FfnRefIdeal.Value.run m g)

/-- The reference `MoeRefIdeal` runs to its end and leaves its arguments and every counter as they were. -/
theorem frame_MoeRefIdeal : Cert.quiescent_MoeRefIdeal := fun m g _ =>
  (θ_run _ _ _).mono (fun r h => ⟨fun c => (h c).2, sem_eq_zero_of_no_sems (by decide) r.2⟩)
    (Cert.MoeRefIdeal.Value.run m g)

/-- The reference `ConvRefIdeal` runs to its end and leaves its arguments and every counter as they were. -/
theorem frame_ConvRefIdeal : Cert.quiescent_ConvRefIdeal := fun m g _ =>
  (θ_run _ _ _).mono (fun r h => ⟨fun c => (h c).2.2, sem_eq_zero_of_no_sems (by decide) r.2⟩)
    (Cert.ConvRefIdeal.Value.run m g)

/-- Every claim of this directory. -/
theorem claim : Cert.Claim :=
  ⟨Cert.Proj.Gen.facts, Cert.ProjIdeal.Gen.facts, Cert.ProjRefIdeal.Gen.facts, Cert.Ffn.Gen.facts, Cert.FfnIdeal.Gen.facts, Cert.FfnRefIdeal.Gen.facts, Cert.Moe.Gen.facts, Cert.MoeIdeal.Gen.facts, Cert.MoeRefIdeal.Gen.facts, Cert.Conv.Gen.facts, Cert.ConvIdeal.Gen.facts, Cert.ConvRefIdeal.Gen.facts, Cert.Router.Gen.facts, Cert.RouterIdeal.Gen.facts, Cert.Pre_gates_weigh.Gen.facts,
   fun m g _ => Cert.Proj.Gen.frame m g,
   fun m g _ => Cert.ProjIdeal.Gen.frame m g,
   frame_ProjRefIdeal,
   fun m g _ => Cert.Ffn.Gen.frame m g,
   fun m g _ => Cert.FfnIdeal.Gen.frame m g,
   frame_FfnRefIdeal,
   fun m g _ => Cert.Moe.Gen.frame m g,
   fun m g _ => Cert.MoeIdeal.Gen.frame m g,
   fun m g _ => Cert.MoeIdeal.Gen.frame m g,
   frame_MoeRefIdeal,
   fun m g _ => frame_MoeRefIdeal m g trivial,
   fun m g _ => Cert.Conv.Gen.frame m g,
   fun m g _ => Cert.ConvIdeal.Gen.frame m g,
   frame_ConvRefIdeal,
   fun m g _ => Cert.Router.Gen.frame m g,
   fun m g _ => Cert.RouterIdeal.Gen.frame m g,
   trivial,
   algebraic_Proj,
   trivial,
   algebraic_Ffn,
   trivial,
   algebraic_Moe,
   trivial,
   algebraic_Conv,
   trivial⟩

end Cert.Proof

end
